-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x768x3072 : Shape := ⟨3, ![12, 768, 3072]⟩
abbrev S12x768x48 : Shape := ⟨3, ![12, 768, 48]⟩
abbrev S3072x16384 : Shape := ⟨2, ![3072, 16384]⟩
abbrev S48x16384 : Shape := ⟨2, ![48, 16384]⟩
abbrev S9216x3072 : Shape := ⟨2, ![9216, 3072]⟩
abbrev S9216x48 : Shape := ⟨2, ![9216, 48]⟩
abbrev S9216x6144 : Shape := ⟨2, ![9216, 6144]⟩
abbrev S256x3072 : Shape := ⟨2, ![256, 3072]⟩
abbrev S256x48 : Shape := ⟨2, ![256, 48]⟩
abbrev S256x6144 : Shape := ⟨2, ![256, 6144]⟩
abbrev S32x128 : Shape := ⟨2, ![32, 128]⟩
abbrev S32x80 : Shape := ⟨2, ![32, 80]⟩
abbrev S32x48 : Shape := ⟨2, ![32, 48]⟩
abbrev S32x128x1 : Shape := ⟨3, ![32, 128, 1]⟩
abbrev S8x128 : Shape := ⟨2, ![8, 128]⟩
abbrev S9216x16384 : Shape := ⟨2, ![9216, 16384]⟩
abbrev S1024x6144 : Shape := ⟨2, ![1024, 6144]⟩
abbrev S3072x1024 : Shape := ⟨2, ![3072, 1024]⟩
abbrev S48x1024 : Shape := ⟨2, ![48, 1024]⟩
abbrev S1024x1024 : Shape := ⟨2, ![1024, 1024]⟩
abbrev S6144x1024 : Shape := ⟨2, ![6144, 1024]⟩
abbrev S64x1024 : Shape := ⟨2, ![64, 1024]⟩
abbrev S16x1024 : Shape := ⟨2, ![16, 1024]⟩
abbrev S1x1024 : Shape := ⟨2, ![1, 1024]⟩
abbrev S12x768x16384 : Shape := ⟨3, ![12, 768, 16384]⟩

abbrev nBuf : Space → Nat
  | .hbm => 11
  | .vmem => 17
  | .smem => 0
  | _ => 0

abbrev bufTy : (tb : Table) → Fin (tcTables nBuf tb) → BufTy
  | .hbm, ⟨0, _⟩ => ⟨S12x768x3072, .i8⟩
  | .hbm, ⟨1, _⟩ => ⟨S12x768x48, .f32⟩
  | .hbm, ⟨2, _⟩ => ⟨S12x768x48, .i8⟩
  | .hbm, ⟨3, _⟩ => ⟨S3072x16384, .i8⟩
  | .hbm, ⟨4, _⟩ => ⟨S48x16384, .f32⟩
  | .hbm, ⟨5, _⟩ => ⟨S9216x3072, .i8⟩
  | .hbm, ⟨6, _⟩ => ⟨S9216x48, .f32⟩
  | .hbm, ⟨7, _⟩ => ⟨S9216x48, .i8⟩
  | .hbm, ⟨8, _⟩ => ⟨S9216x6144, .bf16⟩
  | .hbm, ⟨9, _⟩ => ⟨S9216x16384, .bf16⟩
  | .hbm, ⟨10, _⟩ => ⟨S12x768x16384, .bf16⟩
  | .local _ .vmem, ⟨0, _⟩ => ⟨S256x3072, .i8⟩
  | .local _ .vmem, ⟨1, _⟩ => ⟨S256x3072, .i8⟩
  | .local _ .vmem, ⟨2, _⟩ => ⟨S256x48, .f32⟩
  | .local _ .vmem, ⟨3, _⟩ => ⟨S256x48, .f32⟩
  | .local _ .vmem, ⟨4, _⟩ => ⟨S256x48, .i8⟩
  | .local _ .vmem, ⟨5, _⟩ => ⟨S256x48, .i8⟩
  | .local _ .vmem, ⟨6, _⟩ => ⟨S256x6144, .bf16⟩
  | .local _ .vmem, ⟨7, _⟩ => ⟨S256x6144, .bf16⟩
  | .local _ .vmem, ⟨8, _⟩ => ⟨S1024x6144, .bf16⟩
  | .local _ .vmem, ⟨9, _⟩ => ⟨S1024x6144, .bf16⟩
  | .local _ .vmem, ⟨10, _⟩ => ⟨S3072x1024, .i8⟩
  | .local _ .vmem, ⟨11, _⟩ => ⟨S3072x1024, .i8⟩
  | .local _ .vmem, ⟨12, _⟩ => ⟨S48x1024, .f32⟩
  | .local _ .vmem, ⟨13, _⟩ => ⟨S48x1024, .f32⟩
  | .local _ .vmem, ⟨14, _⟩ => ⟨S1024x1024, .bf16⟩
  | .local _ .vmem, ⟨15, _⟩ => ⟨S1024x1024, .bf16⟩
  | .local _ .vmem, ⟨16, _⟩ => ⟨S6144x1024, .bf16⟩
  | _, _ => ⟨S12x768x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v7 : Index := Scalar.indexCast v5
  let c0 : Index := 0#32
  ![v7.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v41 : Index := Scalar.indexCast v5
  let c0_6 : Index := 0#32
  ![v41.toNat, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v57 : Index := Scalar.indexCast v5
  let c0_8 : Index := 0#32
  ![v57.toNat, 0]
def k0_off4 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v61 : Index := Scalar.indexCast v5
  let c128 : Index := 128#32
  ![v61.toNat, 128]
def k0_off5 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v83 : Index := Scalar.indexCast v5
  let c128_13 : Index := 128#32
  ![v83.toNat, 128]
def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v99 : Index := Scalar.indexCast v5
  let c256 : Index := 256#32
  ![v99.toNat, 256]
def k0_off7 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v103 : Index := Scalar.indexCast v5
  let c384 : Index := 384#32
  ![v103.toNat, 384]
def k0_off8 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v125 : Index := Scalar.indexCast v5
  let c256_22 : Index := 256#32
  ![v125.toNat, 256]
def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v141 : Index := Scalar.indexCast v5
  let c512 : Index := 512#32
  ![v141.toNat, 512]
def k0_off10 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v145 : Index := Scalar.indexCast v5
  let c640 : Index := 640#32
  ![v145.toNat, 640]
def k0_off11 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v167 : Index := Scalar.indexCast v5
  let c384_30 : Index := 384#32
  ![v167.toNat, 384]
def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v183 : Index := Scalar.indexCast v5
  let c768 : Index := 768#32
  ![v183.toNat, 768]
def k0_off13 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v187 : Index := Scalar.indexCast v5
  let c896 : Index := 896#32
  ![v187.toNat, 896]
def k0_off14 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v209 : Index := Scalar.indexCast v5
  let c512_39 : Index := 512#32
  ![v209.toNat, 512]
def k0_off15 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v225 : Index := Scalar.indexCast v5
  let c1024 : Index := 1024#32
  ![v225.toNat, 1024]
def k0_off16 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v229 : Index := Scalar.indexCast v5
  let c1152 : Index := 1152#32
  ![v229.toNat, 1152]
def k0_off17 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v251 : Index := Scalar.indexCast v5
  let c640_47 : Index := 640#32
  ![v251.toNat, 640]
def k0_off18 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v267 : Index := Scalar.indexCast v5
  let c1280 : Index := 1280#32
  ![v267.toNat, 1280]
def k0_off19 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v271 : Index := Scalar.indexCast v5
  let c1408 : Index := 1408#32
  ![v271.toNat, 1408]
def k0_off20 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v293 : Index := Scalar.indexCast v5
  let c768_55 : Index := 768#32
  ![v293.toNat, 768]
def k0_off21 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v309 : Index := Scalar.indexCast v5
  let c1536 : Index := 1536#32
  ![v309.toNat, 1536]
def k0_off22 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v313 : Index := Scalar.indexCast v5
  let c1664 : Index := 1664#32
  ![v313.toNat, 1664]
def k0_off23 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v335 : Index := Scalar.indexCast v5
  let c896_63 : Index := 896#32
  ![v335.toNat, 896]
def k0_off24 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v351 : Index := Scalar.indexCast v5
  let c1792 : Index := 1792#32
  ![v351.toNat, 1792]
def k0_off25 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v355 : Index := Scalar.indexCast v5
  let c1920 : Index := 1920#32
  ![v355.toNat, 1920]
def k0_off26 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v377 : Index := Scalar.indexCast v5
  let c1024_71 : Index := 1024#32
  ![v377.toNat, 1024]
def k0_off27 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v393 : Index := Scalar.indexCast v5
  let c2048 : Index := 2048#32
  ![v393.toNat, 2048]
def k0_off28 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v397 : Index := Scalar.indexCast v5
  let c2176 : Index := 2176#32
  ![v397.toNat, 2176]
def k0_off29 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v419 : Index := Scalar.indexCast v5
  let c1152_79 : Index := 1152#32
  ![v419.toNat, 1152]
def k0_off30 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v435 : Index := Scalar.indexCast v5
  let c2304 : Index := 2304#32
  ![v435.toNat, 2304]
def k0_off31 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v439 : Index := Scalar.indexCast v5
  let c2432 : Index := 2432#32
  ![v439.toNat, 2432]
def k0_off32 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v461 : Index := Scalar.indexCast v5
  let c1280_87 : Index := 1280#32
  ![v461.toNat, 1280]
def k0_off33 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v477 : Index := Scalar.indexCast v5
  let c2560 : Index := 2560#32
  ![v477.toNat, 2560]
def k0_off34 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v481 : Index := Scalar.indexCast v5
  let c2688 : Index := 2688#32
  ![v481.toNat, 2688]
def k0_off35 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v503 : Index := Scalar.indexCast v5
  let c1408_95 : Index := 1408#32
  ![v503.toNat, 1408]
def k0_off36 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v519 : Index := Scalar.indexCast v5
  let c2816 : Index := 2816#32
  ![v519.toNat, 2816]
def k0_off37 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v523 : Index := Scalar.indexCast v5
  let c2944 : Index := 2944#32
  ![v523.toNat, 2944]
def k0_off38 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v545 : Index := Scalar.indexCast v5
  let c1536_103 : Index := 1536#32
  ![v545.toNat, 1536]
def k0_off39 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v561 : Index := Scalar.indexCast v5
  let c3072 : Index := 3072#32
  ![v561.toNat, 3072]
def k0_off40 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v565 : Index := Scalar.indexCast v5
  let c3200 : Index := 3200#32
  ![v565.toNat, 3200]
def k0_off41 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v587 : Index := Scalar.indexCast v5
  let c1664_111 : Index := 1664#32
  ![v587.toNat, 1664]
def k0_off42 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v603 : Index := Scalar.indexCast v5
  let c3328 : Index := 3328#32
  ![v603.toNat, 3328]
def k0_off43 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v607 : Index := Scalar.indexCast v5
  let c3456 : Index := 3456#32
  ![v607.toNat, 3456]
def k0_off44 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v629 : Index := Scalar.indexCast v5
  let c1792_119 : Index := 1792#32
  ![v629.toNat, 1792]
def k0_off45 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v645 : Index := Scalar.indexCast v5
  let c3584 : Index := 3584#32
  ![v645.toNat, 3584]
def k0_off46 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v649 : Index := Scalar.indexCast v5
  let c3712 : Index := 3712#32
  ![v649.toNat, 3712]
def k0_off47 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v671 : Index := Scalar.indexCast v5
  let c1920_127 : Index := 1920#32
  ![v671.toNat, 1920]
def k0_off48 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v687 : Index := Scalar.indexCast v5
  let c3840 : Index := 3840#32
  ![v687.toNat, 3840]
def k0_off49 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v691 : Index := Scalar.indexCast v5
  let c3968 : Index := 3968#32
  ![v691.toNat, 3968]
def k0_off50 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v713 : Index := Scalar.indexCast v5
  let c2048_136 : Index := 2048#32
  ![v713.toNat, 2048]
def k0_off51 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v729 : Index := Scalar.indexCast v5
  let c4096 : Index := 4096#32
  ![v729.toNat, 4096]
def k0_off52 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v733 : Index := Scalar.indexCast v5
  let c4224 : Index := 4224#32
  ![v733.toNat, 4224]
def k0_off53 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v755 : Index := Scalar.indexCast v5
  let c2176_144 : Index := 2176#32
  ![v755.toNat, 2176]
def k0_off54 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v771 : Index := Scalar.indexCast v5
  let c4352 : Index := 4352#32
  ![v771.toNat, 4352]
def k0_off55 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v775 : Index := Scalar.indexCast v5
  let c4480 : Index := 4480#32
  ![v775.toNat, 4480]
def k0_off56 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v797 : Index := Scalar.indexCast v5
  let c2304_152 : Index := 2304#32
  ![v797.toNat, 2304]
def k0_off57 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v813 : Index := Scalar.indexCast v5
  let c4608 : Index := 4608#32
  ![v813.toNat, 4608]
def k0_off58 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v817 : Index := Scalar.indexCast v5
  let c4736 : Index := 4736#32
  ![v817.toNat, 4736]
def k0_off59 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v839 : Index := Scalar.indexCast v5
  let c2432_160 : Index := 2432#32
  ![v839.toNat, 2432]
def k0_off60 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v855 : Index := Scalar.indexCast v5
  let c4864 : Index := 4864#32
  ![v855.toNat, 4864]
def k0_off61 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v859 : Index := Scalar.indexCast v5
  let c4992 : Index := 4992#32
  ![v859.toNat, 4992]
def k0_off62 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v881 : Index := Scalar.indexCast v5
  let c2560_168 : Index := 2560#32
  ![v881.toNat, 2560]
def k0_off63 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v897 : Index := Scalar.indexCast v5
  let c5120 : Index := 5120#32
  ![v897.toNat, 5120]
def k0_off64 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v901 : Index := Scalar.indexCast v5
  let c5248 : Index := 5248#32
  ![v901.toNat, 5248]
def k0_off65 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v923 : Index := Scalar.indexCast v5
  let c2688_176 : Index := 2688#32
  ![v923.toNat, 2688]
def k0_off66 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v939 : Index := Scalar.indexCast v5
  let c5376 : Index := 5376#32
  ![v939.toNat, 5376]
def k0_off67 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v943 : Index := Scalar.indexCast v5
  let c5504 : Index := 5504#32
  ![v943.toNat, 5504]
def k0_off68 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v965 : Index := Scalar.indexCast v5
  let c2816_184 : Index := 2816#32
  ![v965.toNat, 2816]
def k0_off69 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v981 : Index := Scalar.indexCast v5
  let c5632 : Index := 5632#32
  ![v981.toNat, 5632]
def k0_off70 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v985 : Index := Scalar.indexCast v5
  let c5760 : Index := 5760#32
  ![v985.toNat, 5760]
def k0_off71 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v1007 : Index := Scalar.indexCast v5
  let c2944_192 : Index := 2944#32
  ![v1007.toNat, 2944]
def k0_off72 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v1023 : Index := Scalar.indexCast v5
  let c5888 : Index := 5888#32
  ![v1023.toNat, 5888]
def k0_off73 (k0_t1 : Fin k0_t1_loop.trips) : Fin 2 → Nat :=
  let c0_i32 : BitVec 32 := 0#32
  let c1_i32 : BitVec 32 := 1#32
  let arg5 : BitVec 32 := Scf.iv c0_i32 c1_i32 k0_t1
  let c32_i32 : BitVec 32 := 32#32
  let v5 : BitVec 32 := Scalar.muli arg5 c32_i32
  let v1027 : Index := Scalar.indexCast v5
  let c6016 : Index := 6016#32
  ![v1027.toNat, 6016]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x48 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 9], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_6 : BitVec 32 := 0#32
  let c24_i32 : BitVec 32 := 24#32
  let v9 : BitVec 32 := Scalar.addi c0_i32_6 c24_i32
  let c1_i32 : BitVec 32 := 1#32
  ⟨c0_i32_6, v9, c1_i32⟩
def k1_off1 (k1_t1 : Fin k1_t1_loop.trips) (c0_i32_8 : BitVec 32) : Fin 2 → Nat :=
  let c2_i32 : BitVec 32 := 2#32
  let c0_i32_6 : BitVec 32 := 0#32
  let c1_i32 : BitVec 32 := 1#32
  let arg7 : BitVec 32 := Scf.iv c0_i32_6 c1_i32 k1_t1
  let v10 : BitVec 32 := Scalar.muli c2_i32 arg7
  let v11 : BitVec 32 := Scalar.addi v10 c0_i32_8
  let c64_i32 : BitVec 32 := 64#32
  let v12 : BitVec 32 := Scalar.muli v11 c64_i32
  let v13 : Index := Scalar.indexCast v12
  let c0_9 : Index := 0#32
  ![v13.toNat, 0]
def k1_off2 (k1_t1 : Fin k1_t1_loop.trips) (c0_i32_12 : BitVec 32) : Fin 2 → Nat :=
  let c2_i32_11 : BitVec 32 := 2#32
  let c0_i32_6 : BitVec 32 := 0#32
  let c1_i32 : BitVec 32 := 1#32
  let arg7 : BitVec 32 := Scf.iv c0_i32_6 c1_i32 k1_t1
  let v26 : BitVec 32 := Scalar.muli c2_i32_11 arg7
  let v27 : BitVec 32 := Scalar.addi v26 c0_i32_12
  let v28 : Index := Scalar.indexCast v27
  let c0_13 : Index := 0#32
  ![v28.toNat, 0]
def k1_off3 (k1_t1 : Fin k1_t1_loop.trips) (c0_i32_15 : BitVec 32) : Fin 2 → Nat :=
  let c0_i32_6 : BitVec 32 := 0#32
  let c1_i32 : BitVec 32 := 1#32
  let arg7 : BitVec 32 := Scf.iv c0_i32_6 c1_i32 k1_t1
  let c2_i32_14 : BitVec 32 := 2#32
  let v31 : BitVec 32 := Scalar.muli arg7 c2_i32_14
  let c128_i32 : BitVec 32 := 128#32
  let v32 : BitVec 32 := Scalar.muli v31 c128_i32
  let v33 : BitVec 32 := Scalar.addi v32 c0_i32_15
  let v38 : Index := Scalar.indexCast v33
  let c0_17 : Index := 0#32
  ![v38.toNat, 0]
def k1_off4 (k1_t1 : Fin k1_t1_loop.trips) (c0_i32_15 : BitVec 32) : Fin 2 → Nat :=
  let c0_i32_6 : BitVec 32 := 0#32
  let c1_i32 : BitVec 32 := 1#32
  let arg7 : BitVec 32 := Scf.iv c0_i32_6 c1_i32 k1_t1
  let c2_i32_14 : BitVec 32 := 2#32
  let v31 : BitVec 32 := Scalar.muli arg7 c2_i32_14
  let c128_i32 : BitVec 32 := 128#32
  let v32 : BitVec 32 := Scalar.muli v31 c128_i32
  let v33 : BitVec 32 := Scalar.addi v32 c0_i32_15
  let c128_i32_19 : BitVec 32 := 128#32
  let v46 : BitVec 32 := Scalar.addi v33 c128_i32_19
  let v47 : Index := Scalar.indexCast v46
  let c0_20 : Index := 0#32
  ![v47.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3072x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S48x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S12x768x3072 : Shape := ⟨3, ![12, 768, 3072]⟩
abbrev S12x768x48 : Shape := ⟨3, ![12, 768, 48]⟩
abbrev S3072x16384 : Shape := ⟨2, ![3072, 16384]⟩
abbrev S48x16384 : Shape := ⟨2, ![48, 16384]⟩
abbrev S_ : Shape := ⟨0, ![]⟩
abbrev S12x768x48x64 : Shape := ⟨4, ![12, 768, 48, 64]⟩
abbrev S12x768x48x1 : Shape := ⟨4, ![12, 768, 48, 1]⟩
abbrev S48x64x16384 : Shape := ⟨3, ![48, 64, 16384]⟩
abbrev S48x1x16384 : Shape := ⟨3, ![48, 1, 16384]⟩
abbrev S12x768x16384 : Shape := ⟨3, ![12, 768, 16384]⟩

abbrev nBuf : Space → Nat
  | .hbm => 73
  | .vmem => 0
  | .smem => 0
  | _ => 0

abbrev bufTy : (tb : Table) → Fin (tcTables nBuf tb) → BufTy
  | .hbm, ⟨0, _⟩ => ⟨S12x768x3072, .i8⟩
  | .hbm, ⟨1, _⟩ => ⟨S12x768x48, .f32⟩
  | .hbm, ⟨2, _⟩ => ⟨S12x768x48, .i8⟩
  | .hbm, ⟨3, _⟩ => ⟨S3072x16384, .i8⟩
  | .hbm, ⟨4, _⟩ => ⟨S48x16384, .f32⟩
  | .hbm, ⟨5, _⟩ => ⟨S12x768x3072, .i32⟩
  | .hbm, ⟨6, _⟩ => ⟨S_, .i32⟩
  | .hbm, ⟨7, _⟩ => ⟨S12x768x3072, .i32⟩
  | .hbm, ⟨8, _⟩ => ⟨S12x768x3072, .i32⟩
  | .hbm, ⟨9, _⟩ => ⟨S12x768x48x64, .i32⟩
  | .hbm, ⟨10, _⟩ => ⟨S12x768x48, .i32⟩
  | .hbm, ⟨11, _⟩ => ⟨S12x768x48x1, .i32⟩
  | .hbm, ⟨12, _⟩ => ⟨S12x768x48x64, .i32⟩
  | .hbm, ⟨13, _⟩ => ⟨S12x768x48x64, .i32⟩
  | .hbm, ⟨14, _⟩ => ⟨S12x768x48x64, .bf16⟩
  | .hbm, ⟨15, _⟩ => ⟨S12x768x48, .bf16⟩
  | .hbm, ⟨16, _⟩ => ⟨S12x768x48x1, .bf16⟩
  | .hbm, ⟨17, _⟩ => ⟨S12x768x48x64, .bf16⟩
  | .hbm, ⟨18, _⟩ => ⟨S12x768x48x64, .bf16⟩
  | .hbm, ⟨19, _⟩ => ⟨S12x768x3072, .bf16⟩
  | .hbm, ⟨20, _⟩ => ⟨S_, .i32⟩
  | .hbm, ⟨21, _⟩ => ⟨S12x768x3072, .i32⟩
  | .hbm, ⟨22, _⟩ => ⟨S12x768x3072, .i32⟩
  | .hbm, ⟨23, _⟩ => ⟨S12x768x48x64, .i32⟩
  | .hbm, ⟨24, _⟩ => ⟨S12x768x48, .i32⟩
  | .hbm, ⟨25, _⟩ => ⟨S12x768x48x1, .i32⟩
  | .hbm, ⟨26, _⟩ => ⟨S12x768x48x64, .i32⟩
  | .hbm, ⟨27, _⟩ => ⟨S12x768x48x64, .i32⟩
  | .hbm, ⟨28, _⟩ => ⟨S12x768x48x64, .bf16⟩
  | .hbm, ⟨29, _⟩ => ⟨S12x768x48, .bf16⟩
  | .hbm, ⟨30, _⟩ => ⟨S12x768x48x1, .bf16⟩
  | .hbm, ⟨31, _⟩ => ⟨S12x768x48x64, .bf16⟩
  | .hbm, ⟨32, _⟩ => ⟨S12x768x48x64, .bf16⟩
  | .hbm, ⟨33, _⟩ => ⟨S12x768x3072, .bf16⟩
  | .hbm, ⟨34, _⟩ => ⟨S3072x16384, .i32⟩
  | .hbm, ⟨35, _⟩ => ⟨S_, .i32⟩
  | .hbm, ⟨36, _⟩ => ⟨S3072x16384, .i32⟩
  | .hbm, ⟨37, _⟩ => ⟨S3072x16384, .i32⟩
  | .hbm, ⟨38, _⟩ => ⟨S_, .i32⟩
  | .hbm, ⟨39, _⟩ => ⟨S3072x16384, .i32⟩
  | .hbm, ⟨40, _⟩ => ⟨S3072x16384, .i1⟩
  | .hbm, ⟨41, _⟩ => ⟨S_, .i32⟩
  | .hbm, ⟨42, _⟩ => ⟨S3072x16384, .i32⟩
  | .hbm, ⟨43, _⟩ => ⟨S3072x16384, .i32⟩
  | .hbm, ⟨44, _⟩ => ⟨S3072x16384, .i32⟩
  | .hbm, ⟨45, _⟩ => ⟨S3072x16384, .bf16⟩
  | .hbm, ⟨46, _⟩ => ⟨S48x64x16384, .bf16⟩
  | .hbm, ⟨47, _⟩ => ⟨S48x16384, .bf16⟩
  | .hbm, ⟨48, _⟩ => ⟨S48x1x16384, .bf16⟩
  | .hbm, ⟨49, _⟩ => ⟨S48x64x16384, .bf16⟩
  | .hbm, ⟨50, _⟩ => ⟨S48x64x16384, .bf16⟩
  | .hbm, ⟨51, _⟩ => ⟨S3072x16384, .bf16⟩
  | .hbm, ⟨52, _⟩ => ⟨S_, .i32⟩
  | .hbm, ⟨53, _⟩ => ⟨S3072x16384, .i32⟩
  | .hbm, ⟨54, _⟩ => ⟨S3072x16384, .i32⟩
  | .hbm, ⟨55, _⟩ => ⟨S_, .i32⟩
  | .hbm, ⟨56, _⟩ => ⟨S3072x16384, .i32⟩
  | .hbm, ⟨57, _⟩ => ⟨S3072x16384, .i1⟩
  | .hbm, ⟨58, _⟩ => ⟨S_, .i32⟩
  | .hbm, ⟨59, _⟩ => ⟨S3072x16384, .i32⟩
  | .hbm, ⟨60, _⟩ => ⟨S3072x16384, .i32⟩
  | .hbm, ⟨61, _⟩ => ⟨S3072x16384, .i32⟩
  | .hbm, ⟨62, _⟩ => ⟨S3072x16384, .bf16⟩
  | .hbm, ⟨63, _⟩ => ⟨S48x64x16384, .bf16⟩
  | .hbm, ⟨64, _⟩ => ⟨S48x16384, .bf16⟩
  | .hbm, ⟨65, _⟩ => ⟨S48x1x16384, .bf16⟩
  | .hbm, ⟨66, _⟩ => ⟨S48x64x16384, .bf16⟩
  | .hbm, ⟨67, _⟩ => ⟨S48x64x16384, .bf16⟩
  | .hbm, ⟨68, _⟩ => ⟨S3072x16384, .bf16⟩
  | .hbm, ⟨69, _⟩ => ⟨S12x768x16384, .f32⟩
  | .hbm, ⟨70, _⟩ => ⟨S12x768x16384, .f32⟩
  | .hbm, ⟨71, _⟩ => ⟨S12x768x16384, .f32⟩
  | .hbm, ⟨72, _⟩ => ⟨S12x768x16384, .bf16⟩
  | _, _ => ⟨S12x768x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_4 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Proof.FrameK.Act.lean ====
/- The first region of the program, the activation dequantisation: its proof data and its body obligation. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_act_dequant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S256x6144 .bf16 := (Memref.whole cc0_stg3_0 : Memref sig .tc .vmem S256x6144 .bf16).view
/-- Each window's current staging memref at point `t`, spelled as the pipeline passes it (`bodyAt0`), and its wholeness. -/
abbrev ms0_0 (t : Fin cfg0.N) : Memref sig .tc .vmem S256x3072 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x48 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x48 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) :
    { L3 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_act_dequant i arg1 harg1 arg2 harg2 arg3 harg3 arg4 harg4) K } := by
  refine ⟨?_, fun E K => ?run⟩
  case run =>
    simp only [cc0_act_dequant_eq_skeleton]; unfold cc0_act_dequant_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (384 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) (y : S256x6144.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S32x128.size (by sl_kernel_rfl) y

/-- What the run leaves in output 3's staging buffer: its pieces read back over junk. -/
def out0_A_3 (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) : Vec F S256x6144 .bf16 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S256x6144 .bf16 :=
  out0_A_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Gen

end
-- ==== Proof.FrameK.MmBlocks.lean ====
/- The second region of the program, the matmul: its windows' blocks, its branch condition and its staging buffers. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 9) — by arithmetic of the point. -/
theorem hcond1_0 : ∀ t : Fin cfg1.N, cond1_0 (grid1.coords t) ↔ t.val % 9 = 0 :=
  (fun t => by
    have ht : t.val < 144 := Nat.lt_of_lt_of_eq t.isLt N_1
    have e0 : (grid1.coords t 0).val = t.val / 9 % 16 := Pipeline.Grid.coords_val t 0 (by decide) rfl
    have e1 : (grid1.coords t 1).val = t.val / 1 % 9 := Pipeline.Grid.coords_val t 1 (by decide) rfl
    simp only [cond1_0, k1_cond1, e0, e1]
    word_cmp
   : ∀ t : Fin grid1.N, cond1_0 (grid1.coords t) ↔ t.val % 9 = 0)

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6144x1024 .bf16 := Memref.whole cc1_scratch0
/-- The scratch `arg6` the kernel carries between points, as a view: what it holds is stated through it. -/
abbrev VS1_0 : View sig .tc .vmem S6144x1024 .bf16 := scM1_0.view

/-- The staging buffers of the first region at anything, which the second region holds beside its scratch: with `P` for
    what is said of the scratch. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(others1 c iprop((∃ d, owns (c : Thread nD τ) scM1_0 fullShare d)) ∗ (∃ r, prngReg c r)) := by
  unfold Pipeline.ΦA others1; rw [scopedRest1_eq]; simp only [scM1_0, owns_whole]; try rfl

end Cert.Kernel.Gen

end
-- ==== Proof.FrameK.MmRunA.lean ====
/- The matmul's body at a point that fills the weight scratch. -/
module

public import proofs.«01_k».proof.Proof.FrameK.MmBlocks

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 9, … 135: 16 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) :
    Σ' (L3 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (k1_h1 : k1_cond1 i = 1#1) (X_arg3 : BufTy.Contents (Elt F) arg3.view.ty) (X_arg4 : BufTy.Contents (Elt F) arg4.view.ty) (hrdF : BufTy.Contents (Elt F) arg6.view.ty) (hrdB : LoadRect S6144x1024), arg6.view.readAt (Elt F) hrdB (arg6.view.writes (Elt F) hrdF (pb_k1_t1 (F := F) 𝒱 c bd i arg2 harg2 arg3 harg3 arg4 harg4 arg5 harg5 arg6 harg6 k1_h1 X_arg3 X_arg4 (Scf.trips k1_t1_loop.lb k1_t1_loop.ub k1_t1_loop.st))) = arg6.view.readCov (pb_k1_t1 (F := F) 𝒱 c bd i arg2 harg2 arg3 harg3 arg4 harg4 arg5 harg5 arg6 harg6 k1_h1 X_arg3 X_arg4 (Scf.trips k1_t1_loop.lb k1_t1_loop.ub k1_t1_loop.st)) hrdB := fun 𝒱 c bd i arg2 harg2 arg3 harg3 arg4 harg4 arg5 harg5 arg6 harg6 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 k1_h1 X_arg3 X_arg4 (Scf.trips k1_t1_loop.lb k1_t1_loop.ub k1_t1_loop.st)) S64x1024.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Gen

end
-- ==== Proof.FrameK.MmRunB.lean ====
/- The matmul's body at a point that reads the weight scratch as the point before left it. -/
module

public import proofs.«01_k».proof.Proof.FrameK.MmRunA

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 143: 128 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) :
    Σ' (L3 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_w4_matmul i arg2 harg2 arg3 harg3 arg4 harg4 arg5 harg5 arg6 harg6) K } := by
  refine ⟨?_, [], fun E K => ?run⟩
  case run =>
    simp only [cc1_w4_matmul_eq_skeleton]; unfold cc1_w4_matmul_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.Kernel.Gen

end
-- ==== Proof.FrameK.Mm.lean ====
/- The second region of the program, the matmul, which carries its weight scratch between points: its proof data and
   its body obligation. -/
module

public import proofs.«01_k».proof.Proof.FrameK.MmRunB

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A's pieces for output 3 tile its block (1 store of `S1024x1024`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) (y : S1024x1024.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1024x1024.size (by sl_kernel_rfl) y

/-- What case A leaves in output 3's staging buffer: its pieces read back over junk. -/
def out1_A_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) : Vec F S1024x1024 .bf16 :=
  VO1_3.read (Elt F) (VO1_3.writes (Elt F) VO1_3.junk (kernelRun1_A c i arg2 harg2 arg3 harg3 arg4 harg4 arg5 harg5 arg6 harg6 hc0 x0 x1 x2).1)

/-- Case A's pieces for scratch `arg6`, which the kernel carries between points, cover it: 96 pieces of `S64x1024` tiling it (Lib/Ring.lean `Piece.tiledL`). -/
theorem scover1_A_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) (y : S6144x1024.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S64x1024.size (by sl_kernel_rfl) y

/-- What case A leaves in scratch `arg6`: its pieces read back over junk. -/
def sout1_A_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) : Vec F S6144x1024 .bf16 :=
  VS1_0.read (Elt F) (VS1_0.writes (Elt F) VS1_0.junk (kernelRun1_A c i arg2 harg2 arg3 harg3 arg4 harg4 arg5 harg5 arg6 harg6 hc0 x0 x1 x2).2.1)

/-- Case B's pieces for output 3 tile its block (1 store of `S1024x1024`, checked by the kernel's evaluation: Lib/Ring.lean `Piece.tiledL`, linear in the pieces, through a loop's `@[irreducible]` trip theorem too), so they cover it. -/
theorem cover1_B_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) (y : S1024x1024.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1024x1024.size (by sl_kernel_rfl) y

/-- What case B leaves in output 3's staging buffer: its pieces read back over junk. -/
def out1_B_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) : Vec F S1024x1024 .bf16 :=
  VO1_3.read (Elt F) (VO1_3.writes (Elt F) VO1_3.junk (kernelRun1_B c i arg2 harg2 arg3 harg3 arg4 harg4 arg5 harg5 arg6 harg6 hc0 x0 x1 x2 xs0).1)

/-- Case B stores nothing into scratch `arg6`: it holds what the point before left. -/
def sout1_B_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) : Vec F S6144x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S6144x1024 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 9 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt0_A (c : Dev nD) (t : Fin cfg1.N) (h0 : t.val % 9 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt0_B (c : Dev nD) (t : Fin cfg1.N) (h0 : ¬t.val % 9 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(others1 c iprop(owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(others1 c iprop(owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(others1 c iprop(owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3]
  rw [show (dat1 V c).Φ t.succ = PhiS1 V c (t.val + 1) t.isLt from rfl, PhiS1_succ]
  have hN : t.val < 144 := lt_of_lt_of_eq t.isLt (show cfg1.N = 144 from N_1)
  by_cases h0 : t.val % 9 = 0
  · by_cases hz : t.val = 0
    · rw [PhiS1_castSucc V c t, PhiS1_zero V c _ _ hz, PhiA1_eq]
      rw [outsAt0_A V c t h0]
      unfold out1_A_3 sout1_A_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      rw [outsAt0_A V c t h0]
      unfold out1_A_3 sout1_A_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · by_cases hz : t.val = 0
    · exfalso; have hN : t.val < 144 := lt_of_lt_of_eq t.isLt (show cfg1.N = 144 from N_1); omega
    · rw [PhiS1_castSucc V c t, PhiS1_pos V c _ _ hz]
      rw [outsAt0_B V c t h0]
      unfold out1_B_3 sout1_B_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold others1
  iintro ⟨⟨HR0, HR1, HR2, HR3, HR4, HR5, HR6, HR7, HS0⟩, Hg⟩
  isplitl [HR0 HR1 HR2 HR3 HR4 HR5 HR6 HR7 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 144 := N_1; omega)

end Cert.Kernel.Gen

end
-- ==== Proof.FrameK.Run.lean ====
/- The run of the whole program: its segments, the buffer contents at their boundaries, and the frame. -/
module

public import proofs.«01_k».proof.Proof.FrameK.Act
public import proofs.«01_k».proof.Proof.FrameK.Mm

@[expose] public section

-- membership in a rectangle of long axes: the structural look recurses once per coordinate
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c); unfold Pipeline.ΦA
    isplitl [Hr]; · iexact Hr
    iexact Hp
  hout c := by
    have h1 := hout1 (V2 m ρ) c
    rw [Pipeline.ownSems0_none, show (pdats m ρ 1 c).Φ (Fin.last _) = (dat1 (V2 m ρ) c).Φ (Fin.last _) from rfl]; unfold Pipeline.ΦA at h1
    iintro H; ihave H := h1 $$ H; icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has each unscoped buffer at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s hs => ⟨fun c =>
      ⟨(hs.1 c _ (mem_uc main_arg0 (by decide))).trans (W4_main_arg0 m ρ c),
       (hs.1 c _ (mem_uc main_arg1 (by decide))).trans (W4_main_arg1 m ρ c),
       (hs.1 c _ (mem_uc main_arg2 (by decide))).trans (W4_main_arg2 m ρ c),
       (hs.1 c _ (mem_uc main_arg3 (by decide))).trans (W4_main_arg3 m ρ c),
       (hs.1 c _ (mem_uc main_arg4 (by decide))).trans (W4_main_arg4 m ρ c)⟩, hs.2⟩) (run_all m ρ)

end Cert.Kernel.Gen

end
-- ==== Proof.FrameI.Act.lean ====
/- The first region of the program, the activation dequantisation: its proof data and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0_act_dequant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S256x6144 .bf16 := (Memref.whole cc0_stg3_0 : Memref sig .tc .vmem S256x6144 .bf16).view
/-- Each window's current staging memref at point `t`, spelled as the pipeline passes it (`bodyAt0`), and its wholeness. -/
abbrev ms0_0 (t : Fin cfg0.N) : Memref sig .tc .vmem S256x3072 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x48 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x48 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) :
    { L3 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_act_dequant i arg1 harg1 arg2 harg2 arg3 harg3 arg4 harg4) K } := by
  refine ⟨?_, fun E K => ?run⟩
  case run =>
    simp only [cc0_act_dequant_eq_skeleton]; unfold cc0_act_dequant_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (384 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) (y : S256x6144.Idx) :
    ∃ pc ∈ (kernelRun0_A c i arg1 harg1 arg2 harg2 arg3 harg3 arg4 harg4 x0 x1 x2).1, y ∈ pc.1.set :=
  View.cover_of_tiledL (kernelRun0_A c i arg1 harg1 arg2 harg2 arg3 harg3 arg4 harg4 x0 x1 x2).1 S32x128.size (by sl_kernel_rfl) y

/-- What the run leaves in output 3's staging buffer: its pieces read back over junk. -/
def out0_A_3 (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec F S256x3072 .i8) (x1 : Vec F S256x48 .f32) (x2 : Vec F S256x48 .i8) : Vec F S256x6144 .bf16 :=
  VO0_3.read (Elt F) (VO0_3.writes (Elt F) VO0_3.junk (kernelRun0_A c i arg1 harg1 arg2 harg2 arg3 harg3 arg4 harg4 x0 x1 x2).1)

/-! ## What the outputs hold after each point -/

/-- What the outputs' staging buffers hold after the body at point `t`: the run's contents at
    the point's memrefs and input blocks. -/
def outsAt0 (c : Dev nD) (t : Fin cfg0.N) : Vec F S256x6144 .bf16 :=
  out0_A_3 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_3
  iintro ⟨HΦ, Ho, ⟨%d0, H0⟩, ⟨%d1, H1⟩, ⟨%d2, H2⟩, ⟨%d3, H3⟩⟩
  iapply ((kernelRun0_A c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.FrameI.MmBlocks.lean ====
/- The second region of the program, the matmul: its windows' blocks, its branch condition and its staging buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 9) — by arithmetic of the point. -/
theorem hcond1_0 : ∀ t : Fin cfg1.N, cond1_0 (grid1.coords t) ↔ t.val % 9 = 0 :=
  (fun t => by
    have ht : t.val < 144 := Nat.lt_of_lt_of_eq t.isLt N_1
    have e0 : (grid1.coords t 0).val = t.val / 9 % 16 := Pipeline.Grid.coords_val t 0 (by decide) rfl
    have e1 : (grid1.coords t 1).val = t.val / 1 % 9 := Pipeline.Grid.coords_val t 1 (by decide) rfl
    simp only [cond1_0, k1_cond1, e0, e1]
    word_cmp
   : ∀ t : Fin grid1.N, cond1_0 (grid1.coords t) ↔ t.val % 9 = 0)

/-! ## The kernel body on any staging memrefs: a subtype the run finds -/

/-- One staging buffer of output window 3, through which its contents are stated (`View.read_writes_of_cover`: the
    choice does not matter). -/
abbrev VO1_3 : View sig .tc .vmem S1024x1024 .bf16 := (Memref.whole cc1_stg3_0 : Memref sig .tc .vmem S1024x1024 .bf16).view
/-- Each window's current staging memref at point `t`, spelled as the pipeline passes it (`bodyAt1`), and its wholeness. -/
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6144x1024 .bf16 := Memref.whole cc1_scratch0
/-- The scratch `arg6` the kernel carries between points, as a view: what it holds is stated through it. -/
abbrev VS1_0 : View sig .tc .vmem S6144x1024 .bf16 := scM1_0.view

/-- The staging buffers of the first region at anything, which the second region holds beside its scratch: with `P` for
    what is said of the scratch. -/
def others1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(others1 c iprop((∃ d, owns (c : Thread nD τ) scM1_0 fullShare d)) ∗ (∃ r, prngReg c r)) := by
  unfold Pipeline.ΦA others1; rw [scopedRest1_eq]; simp only [scM1_0, owns_whole]; try rfl

end Cert.KernelIdeal.Gen

end
-- ==== Proof.FrameI.MmRunA.lean ====
/- The matmul's body at a point that fills the weight scratch. -/
module

public import proofs.«01_k».proof.Proof.FrameI.MmBlocks

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 9, … 135: 16 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) :
    Σ' (L3 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (k1_h1 : k1_cond1 i = 1#1) (X_arg3 : BufTy.Contents (Elt F) arg3.view.ty) (X_arg4 : BufTy.Contents (Elt F) arg4.view.ty) (hrdF : BufTy.Contents (Elt F) arg6.view.ty) (hrdB : LoadRect S6144x1024), arg6.view.readAt (Elt F) hrdB (arg6.view.writes (Elt F) hrdF (pb_k1_t1 (F := F) 𝒱 c bd i arg2 harg2 arg3 harg3 arg4 harg4 arg5 harg5 arg6 harg6 k1_h1 X_arg3 X_arg4 (Scf.trips k1_t1_loop.lb k1_t1_loop.ub k1_t1_loop.st))) = arg6.view.readCov (pb_k1_t1 (F := F) 𝒱 c bd i arg2 harg2 arg3 harg3 arg4 harg4 arg5 harg5 arg6 harg6 k1_h1 X_arg3 X_arg4 (Scf.trips k1_t1_loop.lb k1_t1_loop.ub k1_t1_loop.st)) hrdB := fun 𝒱 c bd i arg2 harg2 arg3 harg3 arg4 harg4 arg5 harg5 arg6 harg6 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 k1_h1 X_arg3 X_arg4 (Scf.trips k1_t1_loop.lb k1_t1_loop.ub k1_t1_loop.st)) S64x1024.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Gen

end
-- ==== Proof.FrameI.MmRunB.lean ====
/- The matmul's body at a point that reads the weight scratch as the point before left it. -/
module

public import proofs.«01_k».proof.Proof.FrameI.MmRunA

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 143: 128 of 144), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) :
    Σ' (L3 : List (View.Piece (Elt F) S1024x1024 .bf16)), { LS0 : List (View.Piece (Elt F) S6144x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_w4_matmul i arg2 harg2 arg3 harg3 arg4 harg4 arg5 harg5 arg6 harg6) K } := by
  refine ⟨?_, [], fun E K => ?run⟩
  case run =>
    simp only [cc1_w4_matmul_eq_skeleton]; unfold cc1_w4_matmul_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.KernelIdeal.Gen

end
-- ==== Proof.FrameI.Mm.lean ====
/- The second region of the program, the matmul, which carries its weight scratch between points: its proof data and
   its body obligation. -/
module

public import proofs.«01_k».proof.Proof.FrameI.MmRunB

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A's pieces for output 3 tile its block (1 store of `S1024x1024`, checked by the kernel's evaluation: Lib/Ring.lean `Piece.tiledL`, linear in the pieces, through a loop's `@[irreducible]` trip theorem too), so they cover it. -/
theorem cover1_A_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) (y : S1024x1024.Idx) :
    ∃ pc ∈ (kernelRun1_A c i arg2 harg2 arg3 harg3 arg4 harg4 arg5 harg5 arg6 harg6 hc0 x0 x1 x2).1, y ∈ pc.1.set :=
  View.cover_of_tiledL (kernelRun1_A c i arg2 harg2 arg3 harg3 arg4 harg4 arg5 harg5 arg6 harg6 hc0 x0 x1 x2).1 S1024x1024.size (by sl_kernel_rfl) y

/-- What case A leaves in output 3's staging buffer: its pieces read back over junk. -/
def out1_A_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) : Vec F S1024x1024 .bf16 :=
  VO1_3.read (Elt F) (VO1_3.writes (Elt F) VO1_3.junk (kernelRun1_A c i arg2 harg2 arg3 harg3 arg4 harg4 arg5 harg5 arg6 harg6 hc0 x0 x1 x2).1)

/-- Case A's pieces for scratch `arg6`, which the kernel carries between points, cover it: 96 pieces of `S64x1024` tiling it (Lib/Ring.lean `Piece.tiledL`). -/
theorem scover1_A_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) (y : S6144x1024.Idx) :
    ∃ pc ∈ (kernelRun1_A c i arg2 harg2 arg3 harg3 arg4 harg4 arg5 harg5 arg6 harg6 hc0 x0 x1 x2).2.1, y ∈ pc.1.set :=
  View.cover_of_tiledL (kernelRun1_A c i arg2 harg2 arg3 harg3 arg4 harg4 arg5 harg5 arg6 harg6 hc0 x0 x1 x2).2.1 S64x1024.size (by sl_kernel_rfl) y

/-- What case A leaves in scratch `arg6`: its pieces read back over junk. -/
def sout1_A_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i)
    (x0 : Vec F S1024x6144 .bf16) (x1 : Vec F S3072x1024 .i8) (x2 : Vec F S48x1024 .f32) : Vec F S6144x1024 .bf16 :=
  VS1_0.read (Elt F) (VS1_0.writes (Elt F) VS1_0.junk (kernelRun1_A c i arg2 harg2 arg3 harg3 arg4 harg4 arg5 harg5 arg6 harg6 hc0 x0 x1 x2).2.1)

/-- Case B's pieces for output 3 tile its block (1 store of `S1024x1024`, checked by the kernel's evaluation: Lib/Ring.lean `Piece.tiledL`, linear in the pieces, through a loop's `@[irreducible]` trip theorem too), so they cover it. -/
theorem cover1_B_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) (y : S1024x1024.Idx) :
    ∃ pc ∈ (kernelRun1_B c i arg2 harg2 arg3 harg3 arg4 harg4 arg5 harg5 arg6 harg6 hc0 x0 x1 x2 xs0).1, y ∈ pc.1.set :=
  View.cover_of_tiledL (kernelRun1_B c i arg2 harg2 arg3 harg3 arg4 harg4 arg5 harg5 arg6 harg6 hc0 x0 x1 x2 xs0).1 S1024x1024.size (by sl_kernel_rfl) y

/-- What case B leaves in output 3's staging buffer: its pieces read back over junk. -/
def out1_B_3 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) : Vec F S1024x1024 .bf16 :=
  VO1_3.read (Elt F) (VO1_3.writes (Elt F) VO1_3.junk (kernelRun1_B c i arg2 harg2 arg3 harg3 arg4 harg4 arg5 harg5 arg6 harg6 hc0 x0 x1 x2 xs0).1)

/-- Case B stores nothing into scratch `arg6`: it holds what the point before left. -/
def sout1_B_0 (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i)
    (x0 : Vec F S1024x6144 .bf16) (x1 : Vec F S3072x1024 .i8) (x2 : Vec F S48x1024 .f32) (xs0 : Vec F S6144x1024 .bf16) : Vec F S6144x1024 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1024 .bf16 × Vec F S6144x1024 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 9 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt0_A (c : Dev nD) (t : Fin cfg1.N) (h0 : t.val % 9 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt0_B (c : Dev nD) (t : Fin cfg1.N) (h0 : ¬t.val % 9 = 0) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(others1 c iprop(owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(others1 c iprop(owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(others1 c iprop(owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    after1_0, after1_1, after1_2, after1_3]
  rw [show (dat1 V c).Φ t.succ = PhiS1 V c (t.val + 1) t.isLt from rfl, PhiS1_succ]
  have hN : t.val < 144 := lt_of_lt_of_eq t.isLt (show cfg1.N = 144 from N_1)
  by_cases h0 : t.val % 9 = 0
  · by_cases hz : t.val = 0
    · rw [PhiS1_castSucc V c t, PhiS1_zero V c _ _ hz, PhiA1_eq]
      rw [outsAt0_A V c t h0]
      unfold out1_A_3 sout1_A_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
    · rw [PhiS1_castSucc V c t, PhiS1_pos V c _ _ hz]
      rw [outsAt0_A V c t h0]
      unfold out1_A_3 sout1_A_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          unfold owns; iexists _; isplitr
          swap; · iexact HS0
          ipureintro; exact View.read_writes_of_cover _ _ _ _ _ (scover1_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_A_3 c _ _ _ _ _ _ _ _ _ _ _ _ _ _ _)
  · by_cases hz : t.val = 0
    · exfalso; have hN : t.val < 144 := lt_of_lt_of_eq t.isLt (show cfg1.N = 144 from N_1); omega
    · rw [PhiS1_castSucc V c t, PhiS1_pos V c _ _ hz]
      rw [outsAt0_B V c t h0]
      unfold out1_B_3 sout1_B_0; (try dsimp only)
      unfold others1
      iintro ⟨⟨⟨HR0, HR1, HR2, HR3, HR4, HR5, HR6, HR7, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HR0 HR1 HR2 HR3 HR4 HR5 HR6 HR7 HS0 Hg]
      · isplitl [HR0 HR1 HR2 HR3 HR4 HR5 HR6 HR7 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 c _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold others1
  iintro ⟨⟨HR0, HR1, HR2, HR3, HR4, HR5, HR6, HR7, HS0⟩, Hg⟩
  isplitl [HR0 HR1 HR2 HR3 HR4 HR5 HR6 HR7 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 144 := N_1; omega)

end Cert.KernelIdeal.Gen

end
-- ==== Proof.FrameI.Run.lean ====
/- The run of the whole program: its segments, the buffer contents at their boundaries, and the frame. -/
module

public import proofs.«01_k».proof.Proof.FrameI.Act
public import proofs.«01_k».proof.Proof.FrameI.Mm

@[expose] public section

-- membership in a rectangle of long axes: the structural look recurses once per coordinate
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c); unfold Pipeline.ΦA
    isplitl [Hr]; · iexact Hr
    iexact Hp
  hout c := by
    have h1 := hout1 (V2 m ρ) c
    rw [Pipeline.ownSems0_none, show (pdats m ρ 1 c).Φ (Fin.last _) = (dat1 (V2 m ρ) c).Φ (Fin.last _) from rfl]; unfold Pipeline.ΦA at h1
    iintro H; ihave H := h1 $$ H; icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has each unscoped buffer at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: every final state has the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s hs => ⟨fun c =>
      ⟨(hs.1 c _ (mem_uc main_arg0 (by decide))).trans (W4_main_arg0 m ρ c),
       (hs.1 c _ (mem_uc main_arg1 (by decide))).trans (W4_main_arg1 m ρ c),
       (hs.1 c _ (mem_uc main_arg2 (by decide))).trans (W4_main_arg2 m ρ c),
       (hs.1 c _ (mem_uc main_arg3 (by decide))).trans (W4_main_arg3 m ρ c),
       (hs.1 c _ (mem_uc main_arg4 (by decide))).trans (W4_main_arg4 m ρ c)⟩, hs.2⟩) (run_all m ρ)

end Cert.KernelIdeal.Gen

end
-- ==== Proof.Value.Nibbles.lean ====
/- The two nibbles of a byte: what masking and shifting words of four bytes leaves in each byte, and the integers the two
   kernels read there. -/
module

public import Idealize.ShloMosaic.Lib.BitcastFour
public import Mathlib.Tactic.IntervalCases

@[expose] public section

noncomputable section

namespace Cert.Value

open Idealize.ShloMosaic

/-- The low nibble of a byte, read as an unsigned integer. -/
def lowNib (c : BitVec 8) : ℤ := (c.toNat % 16 : ℕ)
/-- The high nibble of a byte, read as an unsigned integer. -/
def highNib (c : BitVec 8) : ℤ := (c.toNat / 16 : ℕ)
/-- An unsigned nibble read as a signed one: eight and above stand for the negatives. -/
def signNib (v : ℤ) : ℤ := if 8 ≤ v then v - 16 else v

/-- A function of four-byte words that acts on each byte alone acts on the rows that the words were made of. -/
theorem bitcast_bytes {R r n : Nat} (f : BitVec 32 → BitVec 32) (g : BitVec 8 → BitVec 8)
    (hfg : ∀ (w : BitVec 32) (b : BitVec 8) (k q : ℕ), k < 4 → q < 8 → (∀ q < 8, w.getLsbD (8 * k + q) = b.getLsbD q) →
      (f w).getLsbD (8 * k + q) = (g b).getLsbD q)
    (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (j : (⟨2, ![R, n]⟩ : Shape).Idx) :
    bitcast ⟨2, ![R, n]⟩ 8 (fun i => f (bitcast ⟨2, ![r, n]⟩ 32 x h i)) h' j = g (x j) := by
  have hR : R = 4 * r := by
    have := h.2.2 ⟨0, Nat.zero_lt_two⟩
    rw [if_pos (show (0 : ℕ) + 2 = 2 from rfl)] at this
    have h2 : R * 8 = r * 32 := this
    omega
  have hj : (j 0).val < R := (j 0).isLt
  apply BitVec.eq_of_getLsbD_eq
  intro q hq
  have hrow : (⟨2, ![R, n]⟩ : Shape).row j = (j 0).val := rfl
  rw [bitcast_getLsbD _ h' j q hq (by decide)]
  have hm : ((⟨2, ![R, n]⟩ : Shape).row j * 8 + q) % 32 = 8 * ((j 0).val % 4) + q := by rw [hrow]; omega
  have hd : ((⟨2, ![R, n]⟩ : Shape).row j * 8 + q) / 32 = (j 0).val / 4 := by rw [hrow]; omega
  have hi : h'.srcIdx j (((⟨2, ![R, n]⟩ : Shape).row j * 8 + q) / 32) (fun a ha =>
          (Nat.div_lt_iff_lt_mul (by decide)).2 (h'.pos_lt j q hq a ha)) = ValueIdx.ix2 ⟨(j 0).val / 4, by omega⟩ (show Fin n from j 1) := by
    funext c
    match c with
    | ⟨0, _⟩ => exact Fin.ext ((h'.srcIdx_row _ _ _ ⟨0, Nat.zero_lt_two⟩ rfl).trans hd)
    | ⟨1, _⟩ => exact Fin.ext (h'.srcIdx_other _ _ _ ⟨1, Nat.one_lt_two⟩ (by show ¬ 1 + 2 = 2; omega))
  rw [hm, hi]
  refine hfg _ _ _ _ (Nat.mod_lt _ (by decide)) hq fun p hp => ?_
  rw [bitcast_8_32_getLsbD_ix2 x h ⟨(j 0).val / 4, by omega⟩ (show Fin n from j 1) (8 * ((j 0).val % 4) + p) (by omega) (j 0) (by show (j 0).val = 4 * ((j 0).val / 4) + _; omega),
    show (8 * ((j 0).val % 4) + p) % 8 = p by omega]
  exact congrArg (fun i => (x i).getLsbD p) (ValueIdx.eq_ix2 j).symm

/-- The mask of low nibbles, -/
theorem low_bytes (w : BitVec 32) (b : BitVec 8) (k q : ℕ) (hk : k < 4) (hq : q < 8) (hb : ∀ q < 8, w.getLsbD (8 * k + q) = b.getLsbD q) :
    (w &&& 252645135#32).getLsbD (8 * k + q) = (b &&& 15#8).getLsbD q := by
  rw [BitVec.getLsbD_and, BitVec.getLsbD_and, hb q hq]
  congr 1
  interval_cases k <;> interval_cases q <;> rfl

/-- the words moved down by four, -/
theorem high_bytes (w : BitVec 32) (b : BitVec 8) (k q : ℕ) (hk : k < 4) (hq : q < 8) (hb : ∀ q < 8, w.getLsbD (8 * k + q) = b.getLsbD q) :
    (w.sshiftRight 4 &&& 252645135#32).getLsbD (8 * k + q) = (b >>> 4 &&& 15#8).getLsbD q := by
  rw [BitVec.getLsbD_and, BitVec.getLsbD_and]
  by_cases h4 : q < 4
  · have e : (w.sshiftRight 4).getLsbD (8 * k + q) = (b >>> 4).getLsbD q := by
      rw [BitVec.getLsbD_sshiftRight, BitVec.getLsbD_ushiftRight, if_pos (by omega), ← hb (4 + q) (by omega),
        show 4 + (8 * k + q) = 8 * k + (4 + q) by omega]
      simp only [show ¬ 32 ≤ 8 * k + q by omega, decide_false, Bool.not_false, Bool.true_and]
    rw [e]
    congr 1
    interval_cases k <;> interval_cases q <;> rfl
  · have e1 : (252645135#32).getLsbD (8 * k + q) = false := by
      interval_cases k <;> interval_cases q <;> first | rfl | omega
    have e2 : (15#8).getLsbD q = false := by
      interval_cases q <;> first | rfl | omega
    rw [e1, e2, Bool.and_false, Bool.and_false]

/-- the mask of high nibbles, -/
theorem top_bytes (w : BitVec 32) (b : BitVec 8) (k q : ℕ) (hk : k < 4) (hq : q < 8) (hb : ∀ q < 8, w.getLsbD (8 * k + q) = b.getLsbD q) :
    (w &&& 4042322160#32).getLsbD (8 * k + q) = (b &&& 240#8).getLsbD q := by
  rw [BitVec.getLsbD_and, BitVec.getLsbD_and, hb q hq]
  congr 1
  interval_cases k <;> interval_cases q <;> rfl

/-- and the words moved up by four. -/
theorem up_bytes (w : BitVec 32) (b : BitVec 8) (k q : ℕ) (hk : k < 4) (hq : q < 8) (hb : ∀ q < 8, w.getLsbD (8 * k + q) = b.getLsbD q) :
    (w <<< 4 &&& 4042322160#32).getLsbD (8 * k + q) = (b <<< 4 &&& 240#8).getLsbD q := by
  rw [BitVec.getLsbD_and, BitVec.getLsbD_and]
  by_cases h4 : q < 4
  · have e1 : (4042322160#32).getLsbD (8 * k + q) = false := by
      interval_cases k <;> interval_cases q <;> first | rfl | omega
    have e2 : (240#8).getLsbD q = false := by
      interval_cases q <;> first | rfl | omega
    rw [e1, e2, Bool.and_false, Bool.and_false]
  · have e : (w <<< 4).getLsbD (8 * k + q) = (b <<< 4).getLsbD q := by
      rw [BitVec.getLsbD_shiftLeft, BitVec.getLsbD_shiftLeft, show 8 * k + q - 4 = 8 * k + (q - 4) by omega, hb (q - 4) (by omega)]
      simp only [show 8 * k + q < 32 by omega, show ¬ 8 * k + q < 4 by omega, hq, h4, decide_true, decide_false]
    rw [e]
    congr 1
    interval_cases k <;> interval_cases q <;> rfl

/-- The integers read in the bytes. -/
theorem toInt_low : ∀ c : BitVec 8, (c &&& 15#8).toInt = lowNib c := by unfold lowNib; decide +kernel
theorem toInt_high : ∀ c : BitVec 8, (c >>> 4 &&& 15#8).toInt = highNib c := by unfold highNib; decide +kernel
theorem toInt_top : ∀ c : BitVec 8, (c &&& 240#8).toInt = 16 * signNib (highNib c) := by unfold highNib signNib; decide +kernel
theorem toInt_up : ∀ c : BitVec 8, (c <<< 4 &&& 240#8).toInt = 16 * signNib (lowNib c) := by unfold lowNib signNib; decide +kernel

end Cert.Value

end
-- ==== Proof.Value.ActTrip.lean ====
/- The activation kernel's trip: the 48 tiles it stores are blocks of one function of the point's three blocks. -/
module

public import proofs.«01_k».proof.Proof.FrameI.Act
public import proofs.«01_k».proof.Proof.Value.Nibbles
public import Idealize.ShloMosaic.Lib.Pipeline.Value
public import Idealize.ShloMosaic.Lib.WholeRead
public import Idealize.ShloMosaic.PureOps.Ideal

@[expose] public section

set_option maxRecDepth 16384

noncomputable section

namespace Cert.KernelIdeal.Gen

open Idealize.ShloMosaic Idealize.ShloMosaic.TcCoe Idealize.ShloMosaic.Tactic
open Idealize.ShloMosaic.ValueIdx (ix2)
open Cert.Value (lowNib highNib)

/-! ## The function -/

/-- The packed byte's column behind column `k` of the dequantised array: blocks of 256 columns are 128 low nibbles, then
    the 128 high ones. -/
def codeCol (k : Fin 6144) : Fin 3072 := ⟨128 * (k.val / 256) + k.val % 128, by omega⟩
/-- The quantisation group of a packed column: 64 bytes. -/
def grpOf (p : Fin 3072) : Fin 48 := ⟨p.val / 64, by omega⟩

/-- One dequantised activation: the nibble less the zero point, times the scale. -/
def deq (v : ℤ) (z : BitVec 8) (s : EReal) : EReal := (((v - (z.toNat : ℤ) : ℤ) : ℝ) : EReal) * s

/-- The dequantised activations of `R` rows, the columns in the kernel's order. -/
def actOf {R : ℕ} (codes : (⟨2, ![R, 3072]⟩ : Shape).Idx → BitVec 8) (s : (⟨2, ![R, 48]⟩ : Shape).Idx → EReal)
    (z : (⟨2, ![R, 48]⟩ : Shape).Idx → BitVec 8) (r : Fin R) (k : Fin 6144) : EReal :=
  deq (if k.val / 128 % 2 = 0 then lowNib (codes (ix2 r (codeCol k))) else highNib (codes (ix2 r (codeCol k))))
    (z (ix2 r (grpOf (codeCol k)))) (s (ix2 r (grpOf (codeCol k))))

/-! ## The tile that the kernel computes, as one function of the column group -/

/-- The lanes of group pair `cj`: the second half of the lanes one further. -/
def gidx (cj : BitVec 32) : IVec S32x128 32 := addi k0_pay1 (broadcast S32x128 cj)

/-- A table's lanes gathered for group pair `cj`. -/
def gath (cj : BitVec 32) (t : FVec Ideal S32x128 .f32) : FVec Ideal S32x128 .bf16 :=
  truncf .bf16 (dynamicGather 1 t (shapeCast S32x128 (shapeCast S32x128x1
    (select (cmpi .slt (gidx cj) (broadcast S32x128 0#32)) (addi (gidx cj) (broadcast S32x128 128#32)) (gidx cj))
    shapeCasts_S32x128_S32x128x1) shapeCasts_S32x128x1_S32x128)) bitsLt_bf16_f32

/-- The low nibbles of a tile of bytes, -/
def nibLo (w : Vec Ideal S32x128 .i8) : FVec Ideal S32x128 .bf16 :=
  sitofp .bf16 (bitcast S32x128 8 (andi (bitcast S8x128 32 (shapeCast S32x128 w shapeCasts_S32x128_S32x128)
    bitcasts_S32x128_w8_S8x128_w32) (broadcast S8x128 252645135#32)) bitcasts_S8x128_w32_S32x128_w8 : IVec S32x128 8)

/-- and the high ones. -/
def nibHi (w : Vec Ideal S32x128 .i8) : FVec Ideal S32x128 .bf16 :=
  sitofp .bf16 (bitcast S32x128 8 (andi (shrsi (bitcast S8x128 32 (shapeCast S32x128 w shapeCasts_S32x128_S32x128)
    bitcasts_S32x128_w8_S8x128_w32) (broadcast S8x128 4#32)) (broadcast S8x128 252645135#32)) bitcasts_S8x128_w32_S32x128_w8 : IVec S32x128 8)

/-- The tile of low nibbles dequantised, -/
def tileLo (cj : BitVec 32) (s : Vec Ideal S32x48 .f32) (z : Vec Ideal S32x48 .i8) (w : Vec Ideal S32x128 .i8) : FVec Ideal S32x128 .bf16 :=
  mulf (subf (nibLo w) (gath cj (k0_pay6 z))) (gath cj (k0_pay5 s))

/-- and that of high ones. -/
def tileHi (cj : BitVec 32) (s : Vec Ideal S32x48 .f32) (z : Vec Ideal S32x48 .i8) (w : Vec Ideal S32x128 .i8) : FVec Ideal S32x128 .bf16 :=
  mulf (subf (nibHi w) (gath cj (k0_pay6 z))) (gath cj (k0_pay5 s))

theorem nibLo_apply (w : Vec Ideal S32x128 .i8) (x : S32x128.Idx) : nibLo w x = ((lowNib (w x) : ℝ) : EReal) := by
  have e := Cert.Value.bitcast_bytes (fun v => v &&& 252645135#32) (fun b => b &&& 15#8) (fun w b k q => Cert.Value.low_bytes w b k q)
    w bitcasts_S32x128_w8_S8x128_w32 bitcasts_S8x128_w32_S32x128_w8 x
  unfold nibLo
  rw [shapeCast_self, ValueIdx.sitofp_apply]
  show ((((bitcast S32x128 8 _ _ x : BitVec 8).toInt : ℤ) : ℝ) : EReal) = _
  rw [← Cert.Value.toInt_low, ← e]
  rfl

theorem nibHi_apply (w : Vec Ideal S32x128 .i8) (x : S32x128.Idx) : nibHi w x = ((highNib (w x) : ℝ) : EReal) := by
  have e := Cert.Value.bitcast_bytes (fun v => v.sshiftRight 4 &&& 252645135#32) (fun b => b >>> 4 &&& 15#8) (fun w b k q => Cert.Value.high_bytes w b k q)
    w bitcasts_S32x128_w8_S8x128_w32 bitcasts_S8x128_w32_S32x128_w8 x
  unfold nibHi
  rw [shapeCast_self, ValueIdx.sitofp_apply]
  show ((((bitcast S32x128 8 _ _ x : BitVec 8).toInt : ℤ) : ℝ) : EReal) = _
  rw [← Cert.Value.toInt_high, ← e]
  rfl

/-- The gathered lane, as the kernel computes it: in range for all 24 group pairs. -/
theorem lane_word : ∀ j : Fin 24, ∀ l : Fin 128,
    (Scalar.select (IntOp.cmpi .slt (IntOp.addi ((IntOp.cmpi .sge (BitVec.ofNat 32 (0 * 128 + l.val)) 64#32).setWidth 32) (BitVec.ofNat 32 (2 * j.val))) 0#32)
      (IntOp.addi (IntOp.addi ((IntOp.cmpi .sge (BitVec.ofNat 32 (0 * 128 + l.val)) 64#32).setWidth 32) (BitVec.ofNat 32 (2 * j.val))) 128#32)
      (IntOp.addi ((IntOp.cmpi .sge (BitVec.ofNat 32 (0 * 128 + l.val)) 64#32).setWidth 32) (BitVec.ofNat 32 (2 * j.val)))).toNat % 128
      = 2 * j.val + l.val / 64 := by
  decide +kernel

theorem gath_apply (j : Fin 24) (t : FVec Ideal S32x128 .f32) (x : S32x128.Idx) :
    gath (BitVec.ofNat 32 (2 * j.val)) t x
      = t (ix2 (show Fin 32 from x 0) (⟨2 * j.val + (x 1).val / 64, by have : (x 1).val < 128 := (x 1).isLt; omega⟩ : Fin 128)) := by
  unfold gath
  rw [shapeCast_shapeCast]
  show dynamicGather 1 t _ x = _
  unfold dynamicGather
  refine congrArg t (funext fun b => ?_)
  match b with
  | ⟨0, _⟩ => rfl
  | ⟨1, _⟩ =>
    exact Fin.ext ((congrArg Fin.val (if_pos rfl)).trans (lane_word j (show Fin 128 from x 1)))

theorem pay5_apply (s : Vec Ideal S32x48 .f32) (r : Fin 32) (g : Fin 48) (l : Fin 128) (h : l.val = g.val) :
    k0_pay5 s (ix2 r l) = s (ix2 r g) := by
  unfold k0_pay5
  rw [shapeCast_self]
  refine concatenate_pair_apply_left (s₁ := S32x48) (s₂ := S32x80) (1 : Fin 2) _ _ concatenates_S32x48_S32x80_S32x128_d1 (ix2 r l) rfl (ix2 r g) fun b => ?_
  match b with
  | ⟨0, _⟩ => rfl
  | ⟨1, _⟩ => exact h.symm

/-- A byte widened with zeros and read as an integer. -/
theorem toInt_byte : ∀ c : BitVec 8, (c.setWidth 32).toInt = (c.toNat : ℤ) := by decide +kernel

theorem pay6_apply (z : Vec Ideal S32x48 .i8) (r : Fin 32) (g : Fin 48) (l : Fin 128) (h : l.val = g.val) :
    k0_pay6 (F := Ideal) z (ix2 r l) = (((z (ix2 r g) : BitVec 8).toNat : ℝ) : EReal) := by
  unfold k0_pay6
  rw [shapeCast_self]
  refine (concatenate_pair_apply_left (s₁ := S32x48) (s₂ := S32x80) (1 : Fin 2) _ _ concatenates_S32x48_S32x80_S32x128_d1 (ix2 r l) rfl (ix2 r g) fun b => ?_).trans ?_
  · match b with
    | ⟨0, _⟩ => rfl
    | ⟨1, _⟩ => exact h.symm
  · show ((((z (ix2 r g) : BitVec 8).setWidth 32).toInt : ℝ) : EReal) = _
    rw [toInt_byte]
    norm_cast

theorem tileLo_apply (j : Fin 24) (s : Vec Ideal S32x48 .f32) (z : Vec Ideal S32x48 .i8) (w : Vec Ideal S32x128 .i8) (x : S32x128.Idx)
    (g : Fin 48) (hg : g.val = 2 * j.val + (x 1).val / 64) :
    tileLo (BitVec.ofNat 32 (2 * j.val)) s z w x
      = deq (lowNib (w x)) (z (ix2 (show Fin 32 from x 0) g)) (s (ix2 (show Fin 32 from x 0) g)) := by
  show (nibLo w x - gath _ (k0_pay6 z) x) * gath _ (k0_pay5 s) x = _
  rw [nibLo_apply, gath_apply, gath_apply, pay5_apply s _ g _ hg.symm, pay6_apply z _ g _ hg.symm, ← EReal.coe_sub]
  unfold deq
  norm_cast

theorem tileHi_apply (j : Fin 24) (s : Vec Ideal S32x48 .f32) (z : Vec Ideal S32x48 .i8) (w : Vec Ideal S32x128 .i8) (x : S32x128.Idx)
    (g : Fin 48) (hg : g.val = 2 * j.val + (x 1).val / 64) :
    tileHi (BitVec.ofNat 32 (2 * j.val)) s z w x
      = deq (highNib (w x)) (z (ix2 (show Fin 32 from x 0) g)) (s (ix2 (show Fin 32 from x 0) g)) := by
  show (nibHi w x - gath _ (k0_pay6 z) x) * gath _ (k0_pay5 s) x = _
  rw [nibHi_apply, gath_apply, gath_apply, pay5_apply s _ g _ hg.symm, pay6_apply z _ g _ hg.symm, ← EReal.coe_sub]
  unfold deq
  norm_cast

/-! ## A tile is the function's block -/

section Agree

variable (arg1 : Memref sig .tc .vmem S256x3072 .i8) (harg1 : arg1.IsWhole) (arg2 : Memref sig .tc .vmem S256x48 .f32) (harg2 : arg2.IsWhole)
  (arg3 : Memref sig .tc .vmem S256x48 .i8) (harg3 : arg3.IsWhole)
  (x0 : Vec Ideal S256x3072 .i8) (x1 : Vec Ideal S256x48 .f32) (x2 : Vec Ideal S256x48 .i8)

/-- The block that the kernel leaves, as one function of the three blocks it reads. -/
def actBlk : S256x6144.Idx → Elt Ideal .bf16 := fun y => actOf x0 x1 x2 (show Fin 256 from y 0) (show Fin 6144 from y 1)

theorem agree_lo (j : Fin 24) (k : Fin k0_t1_loop.trips) {off offc : Fin 2 → ℕ}
    (hoff : off = ![32 * k.val, 256 * j.val]) (hoffc : offc = ![32 * k.val, 128 * j.val])
    (inb : ∀ a, off a + S32x128.size a ≤ S256x6144.size a) (inbc : ∀ a, offc a + S32x128.size a ≤ S256x3072.size a)
    (p : FVec Ideal S32x128 .bf16)
    (hp : p = tileLo (BitVec.ofNat 32 (2 * j.val))
      (View.readAt (Elt Ideal) arg2.view (Rect.unit (s := S256x48) (k0_off1 k) S32x48.size (k0_off1_inb k)).toLoadRect (harg2.unread x1))
      (View.readAt (Elt Ideal) arg3.view (Rect.unit (s := S256x48) (k0_off1 k) S32x48.size (k0_off1_inb k)).toLoadRect (harg3.unread x2))
      (View.readAt (Elt Ideal) arg1.view (Rect.unit (s := S256x3072) offc S32x128.size inbc).toLoadRect (harg1.unread x0)))
    (x : S32x128.Idx) : p x = actBlk x0 x1 x2 ((Rect.unit (s := S256x6144) off S32x128.size inb).emb x) := by
  subst hoff hoffc
  have hk : k.val < 8 := k.isLt
  have h0 : (x 0).val < 32 := (x 0).isLt
  have h1 : (x 1).val < 128 := (x 1).isLt
  have hj := j.isLt
  rw [hp, tileLo_apply j _ _ _ x ⟨2 * j.val + (x 1).val / 64, by omega⟩ rfl, harg1.readAt_unread, harg2.readAt_unread, harg3.readAt_unread]
  have o1 := k0_off1_eq k
  unfold actBlk actOf
  have ek : (((Rect.unit (s := S256x6144) ![32 * k.val, 256 * j.val] S32x128.size inb).emb x) 1).val = 256 * j.val + (x 1).val :=
    (show 256 * j.val + 1 * (x 1).val = _ by omega)
  have er : (((Rect.unit (s := S256x6144) ![32 * k.val, 256 * j.val] S32x128.size inb).emb x) 0).val = 32 * k.val + (x 0).val :=
    (show 32 * k.val + 1 * (x 0).val = _ by omega)
  rw [if_pos (by show (((Rect.unit (s := S256x6144) ![32 * k.val, 256 * j.val] S32x128.size inb).emb x) 1).val / 128 % 2 = 0; rw [ek]; omega)]
  have ec : (codeCol (show Fin 6144 from ((Rect.unit (s := S256x6144) ![32 * k.val, 256 * j.val] S32x128.size inb).emb x) 1)).val = 128 * j.val + (x 1).val := by
    show 128 * (_ / 256) + _ % 128 = _
    rw [ek]; omega
  have ic : (Rect.unit (s := S256x3072) ![32 * k.val, 128 * j.val] S32x128.size inbc).toLoadRect.idx x
      = ix2 (show Fin 256 from ((Rect.unit (s := S256x6144) ![32 * k.val, 256 * j.val] S32x128.size inb).emb x) 0)
          (codeCol (show Fin 6144 from ((Rect.unit (s := S256x6144) ![32 * k.val, 256 * j.val] S32x128.size inb).emb x) 1)) := by
    funext a
    match a with
    | ⟨0, _⟩ => rfl
    | ⟨1, _⟩ => exact Fin.ext ((show 128 * j.val + 1 * (x 1).val = 128 * j.val + (x 1).val by omega).trans ec.symm)
  have ig : (Rect.unit (s := S256x48) (k0_off1 k) S32x48.size (k0_off1_inb k)).toLoadRect.idx
        (ix2 (show Fin 32 from x 0) (⟨2 * j.val + (x 1).val / 64, by omega⟩ : Fin 48))
      = ix2 (show Fin 256 from ((Rect.unit (s := S256x6144) ![32 * k.val, 256 * j.val] S32x128.size inb).emb x) 0)
          (grpOf (codeCol (show Fin 6144 from ((Rect.unit (s := S256x6144) ![32 * k.val, 256 * j.val] S32x128.size inb).emb x) 1))) := by
    funext a
    match a with
    | ⟨0, _⟩ => exact Fin.ext ((show k0_off1 k 0 + 1 * (x 0).val = 32 * k.val + (x 0).val by rw [o1]; show 32 * k.val + _ = _; omega).trans er.symm)
    | ⟨1, _⟩ =>
      refine Fin.ext ((show k0_off1 k 1 + 1 * (2 * j.val + (x 1).val / 64) = 2 * j.val + (x 1).val / 64 by rw [o1]; show 0 + _ = _; omega).trans ?_)
      show _ = (codeCol _).val / 64
      rw [ec]; omega
  rw [ic, ig]

theorem agree_hi (j : Fin 24) (k : Fin k0_t1_loop.trips) {off offc : Fin 2 → ℕ}
    (hoff : off = ![32 * k.val, 256 * j.val + 128]) (hoffc : offc = ![32 * k.val, 128 * j.val])
    (inb : ∀ a, off a + S32x128.size a ≤ S256x6144.size a) (inbc : ∀ a, offc a + S32x128.size a ≤ S256x3072.size a)
    (p : FVec Ideal S32x128 .bf16)
    (hp : p = tileHi (BitVec.ofNat 32 (2 * j.val))
      (View.readAt (Elt Ideal) arg2.view (Rect.unit (s := S256x48) (k0_off1 k) S32x48.size (k0_off1_inb k)).toLoadRect (harg2.unread x1))
      (View.readAt (Elt Ideal) arg3.view (Rect.unit (s := S256x48) (k0_off1 k) S32x48.size (k0_off1_inb k)).toLoadRect (harg3.unread x2))
      (View.readAt (Elt Ideal) arg1.view (Rect.unit (s := S256x3072) offc S32x128.size inbc).toLoadRect (harg1.unread x0)))
    (x : S32x128.Idx) : p x = actBlk x0 x1 x2 ((Rect.unit (s := S256x6144) off S32x128.size inb).emb x) := by
  subst hoff hoffc
  have hk : k.val < 8 := k.isLt
  have h0 : (x 0).val < 32 := (x 0).isLt
  have h1 : (x 1).val < 128 := (x 1).isLt
  have hj := j.isLt
  rw [hp, tileHi_apply j _ _ _ x ⟨2 * j.val + (x 1).val / 64, by omega⟩ rfl, harg1.readAt_unread, harg2.readAt_unread, harg3.readAt_unread]
  have o1 := k0_off1_eq k
  unfold actBlk actOf
  have ek : (((Rect.unit (s := S256x6144) ![32 * k.val, 256 * j.val + 128] S32x128.size inb).emb x) 1).val = 256 * j.val + 128 + (x 1).val :=
    (show 256 * j.val + 128 + 1 * (x 1).val = _ by omega)
  have er : (((Rect.unit (s := S256x6144) ![32 * k.val, 256 * j.val + 128] S32x128.size inb).emb x) 0).val = 32 * k.val + (x 0).val :=
    (show 32 * k.val + 1 * (x 0).val = _ by omega)
  rw [if_neg (by show ¬ (((Rect.unit (s := S256x6144) ![32 * k.val, 256 * j.val + 128] S32x128.size inb).emb x) 1).val / 128 % 2 = 0; rw [ek]; omega)]
  have ec : (codeCol (show Fin 6144 from ((Rect.unit (s := S256x6144) ![32 * k.val, 256 * j.val + 128] S32x128.size inb).emb x) 1)).val = 128 * j.val + (x 1).val := by
    show 128 * (_ / 256) + _ % 128 = _
    rw [ek]; omega
  have ic : (Rect.unit (s := S256x3072) ![32 * k.val, 128 * j.val] S32x128.size inbc).toLoadRect.idx x
      = ix2 (show Fin 256 from ((Rect.unit (s := S256x6144) ![32 * k.val, 256 * j.val + 128] S32x128.size inb).emb x) 0)
          (codeCol (show Fin 6144 from ((Rect.unit (s := S256x6144) ![32 * k.val, 256 * j.val + 128] S32x128.size inb).emb x) 1)) := by
    funext a
    match a with
    | ⟨0, _⟩ => rfl
    | ⟨1, _⟩ => exact Fin.ext ((show 128 * j.val + 1 * (x 1).val = 128 * j.val + (x 1).val by omega).trans ec.symm)
  have ig : (Rect.unit (s := S256x48) (k0_off1 k) S32x48.size (k0_off1_inb k)).toLoadRect.idx
        (ix2 (show Fin 32 from x 0) (⟨2 * j.val + (x 1).val / 64, by omega⟩ : Fin 48))
      = ix2 (show Fin 256 from ((Rect.unit (s := S256x6144) ![32 * k.val, 256 * j.val + 128] S32x128.size inb).emb x) 0)
          (grpOf (codeCol (show Fin 6144 from ((Rect.unit (s := S256x6144) ![32 * k.val, 256 * j.val + 128] S32x128.size inb).emb x) 1))) := by
    funext a
    match a with
    | ⟨0, _⟩ => exact Fin.ext ((show k0_off1 k 0 + 1 * (x 0).val = 32 * k.val + (x 0).val by rw [o1]; show 32 * k.val + _ = _; omega).trans er.symm)
    | ⟨1, _⟩ =>
      refine Fin.ext ((show k0_off1 k 1 + 1 * (2 * j.val + (x 1).val / 64) = 2 * j.val + (x 1).val / 64 by rw [o1]; show 0 + _ = _; omega).trans ?_)
      show _ = (codeCol _).val / 64
      rw [ec]; omega
  rw [ic, ig]

end Agree

/-- Every tile of a trip is a block of the function. -/
theorem trip_agrees (𝒱 : Variants) (c : Dev nD) (bd : Option 𝒱.V) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec Ideal S256x3072 .i8) (x1 : Vec Ideal S256x48 .f32) (x2 : Vec Ideal S256x48 .i8) (k : Fin k0_t1_loop.trips) :
    ∀ p ∈ tripL_k0_t1 (F := Ideal) 𝒱 c bd i arg1 harg1 arg2 harg2 arg3 harg3 arg4 harg4 (harg1.unread x0) (harg2.unread x1) (harg3.unread x2) k,
      ∀ x : p.1.shape.Idx, p.2 x = actBlk x0 x1 x2 (p.1.emb x) := by
  unfold tripL_k0_t1 trip_k0_t1
  dsimp only
  refine List.forall_mem_cons.2 ⟨agree_hi arg1 harg1 arg2 harg2 arg3 harg3 x0 x1 x2 23 k (k0_off73_eq k) (k0_off71_eq k) (k0_off73_inb k) (k0_off71_inb k) _ rfl, ?_⟩
  refine List.forall_mem_cons.2 ⟨agree_lo arg1 harg1 arg2 harg2 arg3 harg3 x0 x1 x2 23 k (k0_off72_eq k) (k0_off71_eq k) (k0_off72_inb k) (k0_off71_inb k) _ rfl, ?_⟩
  refine List.forall_mem_cons.2 ⟨agree_hi arg1 harg1 arg2 harg2 arg3 harg3 x0 x1 x2 22 k (k0_off70_eq k) (k0_off68_eq k) (k0_off70_inb k) (k0_off68_inb k) _ rfl, ?_⟩
  refine List.forall_mem_cons.2 ⟨agree_lo arg1 harg1 arg2 harg2 arg3 harg3 x0 x1 x2 22 k (k0_off69_eq k) (k0_off68_eq k) (k0_off69_inb k) (k0_off68_inb k) _ rfl, ?_⟩
  refine List.forall_mem_cons.2 ⟨agree_hi arg1 harg1 arg2 harg2 arg3 harg3 x0 x1 x2 21 k (k0_off67_eq k) (k0_off65_eq k) (k0_off67_inb k) (k0_off65_inb k) _ rfl, ?_⟩
  refine List.forall_mem_cons.2 ⟨agree_lo arg1 harg1 arg2 harg2 arg3 harg3 x0 x1 x2 21 k (k0_off66_eq k) (k0_off65_eq k) (k0_off66_inb k) (k0_off65_inb k) _ rfl, ?_⟩
  refine List.forall_mem_cons.2 ⟨agree_hi arg1 harg1 arg2 harg2 arg3 harg3 x0 x1 x2 20 k (k0_off64_eq k) (k0_off62_eq k) (k0_off64_inb k) (k0_off62_inb k) _ rfl, ?_⟩
  refine List.forall_mem_cons.2 ⟨agree_lo arg1 harg1 arg2 harg2 arg3 harg3 x0 x1 x2 20 k (k0_off63_eq k) (k0_off62_eq k) (k0_off63_inb k) (k0_off62_inb k) _ rfl, ?_⟩
  refine List.forall_mem_cons.2 ⟨agree_hi arg1 harg1 arg2 harg2 arg3 harg3 x0 x1 x2 19 k (k0_off61_eq k) (k0_off59_eq k) (k0_off61_inb k) (k0_off59_inb k) _ rfl, ?_⟩
  refine List.forall_mem_cons.2 ⟨agree_lo arg1 harg1 arg2 harg2 arg3 harg3 x0 x1 x2 19 k (k0_off60_eq k) (k0_off59_eq k) (k0_off60_inb k) (k0_off59_inb k) _ rfl, ?_⟩
  refine List.forall_mem_cons.2 ⟨agree_hi arg1 harg1 arg2 harg2 arg3 harg3 x0 x1 x2 18 k (k0_off58_eq k) (k0_off56_eq k) (k0_off58_inb k) (k0_off56_inb k) _ rfl, ?_⟩
  refine List.forall_mem_cons.2 ⟨agree_lo arg1 harg1 arg2 harg2 arg3 harg3 x0 x1 x2 18 k (k0_off57_eq k) (k0_off56_eq k) (k0_off57_inb k) (k0_off56_inb k) _ rfl, ?_⟩
  refine List.forall_mem_cons.2 ⟨agree_hi arg1 harg1 arg2 harg2 arg3 harg3 x0 x1 x2 17 k (k0_off55_eq k) (k0_off53_eq k) (k0_off55_inb k) (k0_off53_inb k) _ rfl, ?_⟩
  refine List.forall_mem_cons.2 ⟨agree_lo arg1 harg1 arg2 harg2 arg3 harg3 x0 x1 x2 17 k (k0_off54_eq k) (k0_off53_eq k) (k0_off54_inb k) (k0_off53_inb k) _ rfl, ?_⟩
  refine List.forall_mem_cons.2 ⟨agree_hi arg1 harg1 arg2 harg2 arg3 harg3 x0 x1 x2 16 k (k0_off52_eq k) (k0_off50_eq k) (k0_off52_inb k) (k0_off50_inb k) _ rfl, ?_⟩
  refine List.forall_mem_cons.2 ⟨agree_lo arg1 harg1 arg2 harg2 arg3 harg3 x0 x1 x2 16 k (k0_off51_eq k) (k0_off50_eq k) (k0_off51_inb k) (k0_off50_inb k) _ rfl, ?_⟩
  refine List.forall_mem_cons.2 ⟨agree_hi arg1 harg1 arg2 harg2 arg3 harg3 x0 x1 x2 15 k (k0_off49_eq k) (k0_off47_eq k) (k0_off49_inb k) (k0_off47_inb k) _ rfl, ?_⟩
  refine List.forall_mem_cons.2 ⟨agree_lo arg1 harg1 arg2 harg2 arg3 harg3 x0 x1 x2 15 k (k0_off48_eq k) (k0_off47_eq k) (k0_off48_inb k) (k0_off47_inb k) _ rfl, ?_⟩
  refine List.forall_mem_cons.2 ⟨agree_hi arg1 harg1 arg2 harg2 arg3 harg3 x0 x1 x2 14 k (k0_off46_eq k) (k0_off44_eq k) (k0_off46_inb k) (k0_off44_inb k) _ rfl, ?_⟩
  refine List.forall_mem_cons.2 ⟨agree_lo arg1 harg1 arg2 harg2 arg3 harg3 x0 x1 x2 14 k (k0_off45_eq k) (k0_off44_eq k) (k0_off45_inb k) (k0_off44_inb k) _ rfl, ?_⟩
  refine List.forall_mem_cons.2 ⟨agree_hi arg1 harg1 arg2 harg2 arg3 harg3 x0 x1 x2 13 k (k0_off43_eq k) (k0_off41_eq k) (k0_off43_inb k) (k0_off41_inb k) _ rfl, ?_⟩
  refine List.forall_mem_cons.2 ⟨agree_lo arg1 harg1 arg2 harg2 arg3 harg3 x0 x1 x2 13 k (k0_off42_eq k) (k0_off41_eq k) (k0_off42_inb k) (k0_off41_inb k) _ rfl, ?_⟩
  refine List.forall_mem_cons.2 ⟨agree_hi arg1 harg1 arg2 harg2 arg3 harg3 x0 x1 x2 12 k (k0_off40_eq k) (k0_off38_eq k) (k0_off40_inb k) (k0_off38_inb k) _ rfl, ?_⟩
  refine List.forall_mem_cons.2 ⟨agree_lo arg1 harg1 arg2 harg2 arg3 harg3 x0 x1 x2 12 k (k0_off39_eq k) (k0_off38_eq k) (k0_off39_inb k) (k0_off38_inb k) _ rfl, ?_⟩
  refine List.forall_mem_cons.2 ⟨agree_hi arg1 harg1 arg2 harg2 arg3 harg3 x0 x1 x2 11 k (k0_off37_eq k) (k0_off35_eq k) (k0_off37_inb k) (k0_off35_inb k) _ rfl, ?_⟩
  refine List.forall_mem_cons.2 ⟨agree_lo arg1 harg1 arg2 harg2 arg3 harg3 x0 x1 x2 11 k (k0_off36_eq k) (k0_off35_eq k) (k0_off36_inb k) (k0_off35_inb k) _ rfl, ?_⟩
  refine List.forall_mem_cons.2 ⟨agree_hi arg1 harg1 arg2 harg2 arg3 harg3 x0 x1 x2 10 k (k0_off34_eq k) (k0_off32_eq k) (k0_off34_inb k) (k0_off32_inb k) _ rfl, ?_⟩
  refine List.forall_mem_cons.2 ⟨agree_lo arg1 harg1 arg2 harg2 arg3 harg3 x0 x1 x2 10 k (k0_off33_eq k) (k0_off32_eq k) (k0_off33_inb k) (k0_off32_inb k) _ rfl, ?_⟩
  refine List.forall_mem_cons.2 ⟨agree_hi arg1 harg1 arg2 harg2 arg3 harg3 x0 x1 x2 9 k (k0_off31_eq k) (k0_off29_eq k) (k0_off31_inb k) (k0_off29_inb k) _ rfl, ?_⟩
  refine List.forall_mem_cons.2 ⟨agree_lo arg1 harg1 arg2 harg2 arg3 harg3 x0 x1 x2 9 k (k0_off30_eq k) (k0_off29_eq k) (k0_off30_inb k) (k0_off29_inb k) _ rfl, ?_⟩
  refine List.forall_mem_cons.2 ⟨agree_hi arg1 harg1 arg2 harg2 arg3 harg3 x0 x1 x2 8 k (k0_off28_eq k) (k0_off26_eq k) (k0_off28_inb k) (k0_off26_inb k) _ rfl, ?_⟩
  refine List.forall_mem_cons.2 ⟨agree_lo arg1 harg1 arg2 harg2 arg3 harg3 x0 x1 x2 8 k (k0_off27_eq k) (k0_off26_eq k) (k0_off27_inb k) (k0_off26_inb k) _ rfl, ?_⟩
  refine List.forall_mem_cons.2 ⟨agree_hi arg1 harg1 arg2 harg2 arg3 harg3 x0 x1 x2 7 k (k0_off25_eq k) (k0_off23_eq k) (k0_off25_inb k) (k0_off23_inb k) _ rfl, ?_⟩
  refine List.forall_mem_cons.2 ⟨agree_lo arg1 harg1 arg2 harg2 arg3 harg3 x0 x1 x2 7 k (k0_off24_eq k) (k0_off23_eq k) (k0_off24_inb k) (k0_off23_inb k) _ rfl, ?_⟩
  refine List.forall_mem_cons.2 ⟨agree_hi arg1 harg1 arg2 harg2 arg3 harg3 x0 x1 x2 6 k (k0_off22_eq k) (k0_off20_eq k) (k0_off22_inb k) (k0_off20_inb k) _ rfl, ?_⟩
  refine List.forall_mem_cons.2 ⟨agree_lo arg1 harg1 arg2 harg2 arg3 harg3 x0 x1 x2 6 k (k0_off21_eq k) (k0_off20_eq k) (k0_off21_inb k) (k0_off20_inb k) _ rfl, ?_⟩
  refine List.forall_mem_cons.2 ⟨agree_hi arg1 harg1 arg2 harg2 arg3 harg3 x0 x1 x2 5 k (k0_off19_eq k) (k0_off17_eq k) (k0_off19_inb k) (k0_off17_inb k) _ rfl, ?_⟩
  refine List.forall_mem_cons.2 ⟨agree_lo arg1 harg1 arg2 harg2 arg3 harg3 x0 x1 x2 5 k (k0_off18_eq k) (k0_off17_eq k) (k0_off18_inb k) (k0_off17_inb k) _ rfl, ?_⟩
  refine List.forall_mem_cons.2 ⟨agree_hi arg1 harg1 arg2 harg2 arg3 harg3 x0 x1 x2 4 k (k0_off16_eq k) (k0_off14_eq k) (k0_off16_inb k) (k0_off14_inb k) _ rfl, ?_⟩
  refine List.forall_mem_cons.2 ⟨agree_lo arg1 harg1 arg2 harg2 arg3 harg3 x0 x1 x2 4 k (k0_off15_eq k) (k0_off14_eq k) (k0_off15_inb k) (k0_off14_inb k) _ rfl, ?_⟩
  refine List.forall_mem_cons.2 ⟨agree_hi arg1 harg1 arg2 harg2 arg3 harg3 x0 x1 x2 3 k (k0_off13_eq k) (k0_off11_eq k) (k0_off13_inb k) (k0_off11_inb k) _ rfl, ?_⟩
  refine List.forall_mem_cons.2 ⟨agree_lo arg1 harg1 arg2 harg2 arg3 harg3 x0 x1 x2 3 k (k0_off12_eq k) (k0_off11_eq k) (k0_off12_inb k) (k0_off11_inb k) _ rfl, ?_⟩
  refine List.forall_mem_cons.2 ⟨agree_hi arg1 harg1 arg2 harg2 arg3 harg3 x0 x1 x2 2 k (k0_off10_eq k) (k0_off8_eq k) (k0_off10_inb k) (k0_off8_inb k) _ rfl, ?_⟩
  refine List.forall_mem_cons.2 ⟨agree_lo arg1 harg1 arg2 harg2 arg3 harg3 x0 x1 x2 2 k (k0_off9_eq k) (k0_off8_eq k) (k0_off9_inb k) (k0_off8_inb k) _ rfl, ?_⟩
  refine List.forall_mem_cons.2 ⟨agree_hi arg1 harg1 arg2 harg2 arg3 harg3 x0 x1 x2 1 k (k0_off7_eq k) (k0_off5_eq k) (k0_off7_inb k) (k0_off5_inb k) _ rfl, ?_⟩
  refine List.forall_mem_cons.2 ⟨agree_lo arg1 harg1 arg2 harg2 arg3 harg3 x0 x1 x2 1 k (k0_off6_eq k) (k0_off5_eq k) (k0_off6_inb k) (k0_off5_inb k) _ rfl, ?_⟩
  refine List.forall_mem_cons.2 ⟨agree_hi arg1 harg1 arg2 harg2 arg3 harg3 x0 x1 x2 0 k (k0_off4_eq k) (k0_off2_eq k) (k0_off4_inb k) (k0_off2_inb k) _ rfl, ?_⟩
  refine List.forall_mem_cons.2 ⟨agree_lo arg1 harg1 arg2 harg2 arg3 harg3 x0 x1 x2 0 k (k0_off3_eq k) (k0_off2_eq k) (k0_off3_inb k) (k0_off2_inb k) _ rfl, ?_⟩
  exact fun p hp => absurd hp List.not_mem_nil

/-- Every tile of the trips before `n` is a block of the function. -/
theorem pieces_agree (𝒱 : Variants) (c : Dev nD) (bd : Option 𝒱.V) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec Ideal S256x3072 .i8) (x1 : Vec Ideal S256x48 .f32) (x2 : Vec Ideal S256x48 .i8) (n : ℕ) (hn : n ≤ k0_t1_loop.trips) :
    ∀ p ∈ pb_k0_t1 (F := Ideal) 𝒱 c bd i arg1 harg1 arg2 harg2 arg3 harg3 arg4 harg4 (harg1.unread x0) (harg2.unread x1) (harg3.unread x2) n,
      ∀ x : p.1.shape.Idx, p.2 x = actBlk x0 x1 x2 (p.1.emb x) := by
  induction n with
  | zero => exact fun p hp => absurd hp List.not_mem_nil
  | succ n ih =>
    intro p hp
    rw [pb_k0_t1_succ 𝒱 c bd i arg1 harg1 arg2 harg2 arg3 harg3 arg4 harg4 _ _ _ ⟨n, hn⟩] at hp
    rcases List.mem_append.1 hp with hp | hp
    · exact trip_agrees 𝒱 c bd i arg1 harg1 arg2 harg2 arg3 harg3 arg4 harg4 x0 x1 x2 ⟨n, hn⟩ p hp
    · exact ih (Nat.le_of_succ_le hn) p hp

/-- What the activation kernel leaves in its output block: the block's dequantised activations. -/
theorem out0_apply (c : Dev nD) (i : grid0.Coords) (arg1 : Memref sig .tc .vmem S256x3072 .i8) (harg1 : arg1.IsWhole) (arg2 : Memref sig .tc .vmem S256x48 .f32) (harg2 : arg2.IsWhole) (arg3 : Memref sig .tc .vmem S256x48 .i8) (harg3 : arg3.IsWhole) (arg4 : Memref sig .tc .vmem S256x6144 .bf16) (harg4 : arg4.IsWhole)
    (x0 : Vec Ideal S256x3072 .i8) (x1 : Vec Ideal S256x48 .f32) (x2 : Vec Ideal S256x48 .i8) (y : S256x6144.Idx) :
    out0_A_3 c i arg1 harg1 arg2 harg2 arg3 harg3 arg4 harg4 x0 x1 x2 y = actBlk x0 x1 x2 y := by
  unfold out0_A_3
  refine View.read_writes_apply_of_pieces VO0_3 _ (actBlk x0 x1 x2) _ ?_ y (cover0_A_3 c i arg1 harg1 arg2 harg2 arg3 harg3 arg4 harg4 x0 x1 x2 y)
  unfold kernelRun0_A
  dsimp only
  exact pieces_agree Variants.none c none i arg1 harg1 arg2 harg2 arg3 harg3 arg4 harg4 x0 x1 x2 _ le_rfl

end Cert.KernelIdeal.Gen

end
-- ==== Proof.Value.Weights.lean ====
/- The matmul's body: the weight scratch it fills, and the block of products it leaves. -/
module

public import proofs.«01_k».proof.Proof.FrameI.Mm
public import proofs.«01_k».proof.Proof.Value.ActTrip
public import Idealize.ShloMosaic.Lib.MatmulPlain
public import Idealize.ShloMosaic.Lib.IdealHost
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.ShloMosaic.ValueIdx (ix2)
open Cert.Value (lowNib highNib signNib)

/-! ## The function -/

/-- One dequantised weight: the signed nibble times the scale. -/
def deqW (v : ℤ) (s : EReal) : EReal := (((signNib v : ℤ) : ℝ) : EReal) * s

/-- The dequantised weights of `N` columns, the rows in the kernel's order. -/
def wOf {N : ℕ} (wp : (⟨2, ![3072, N]⟩ : Shape).Idx → BitVec 8) (ws : (⟨2, ![48, N]⟩ : Shape).Idx → EReal)
    (k : Fin 6144) (n : Fin N) : EReal :=
  deqW (if k.val / 128 % 2 = 0 then lowNib (wp (ix2 (codeCol k) n)) else highNib (wp (ix2 (codeCol k) n)))
    (ws (ix2 (grpOf (codeCol k)) n))

/-! ## A tile of weights -/

/-- Sixteen times the signed low nibbles of a tile of bytes, -/
def topLo (w : Vec Ideal S64x1024 .i8) : FVec Ideal S64x1024 .bf16 :=
  sitofp .bf16 (bitcast S64x1024 8 (andi (shli (bitcast S16x1024 32 w bitcasts_S64x1024_w8_S16x1024_w32) (broadcast S16x1024 4#32))
    (broadcast S16x1024 4042322160#32)) bitcasts_S16x1024_w32_S64x1024_w8 : IVec S64x1024 8)

/-- and of the high ones. -/
def topHi (w : Vec Ideal S64x1024 .i8) : FVec Ideal S64x1024 .bf16 :=
  sitofp .bf16 (bitcast S64x1024 8 (andi (bitcast S16x1024 32 w bitcasts_S64x1024_w8_S16x1024_w32)
    (broadcast S16x1024 4042322160#32)) bitcasts_S16x1024_w32_S64x1024_w8 : IVec S64x1024 8)

/-- A tile of such nibbles, a sixteenth, times the scales. -/
def tileW (v : FVec Ideal S64x1024 .bf16) (s : Vec Ideal S1x1024 .f32) : FVec Ideal S64x1024 .bf16 :=
  mulf (mulf v (broadcast S64x1024 (Scalar.ofBits .bf16 0x3D80#16)))
    (broadcastTo S64x1024 (truncf .bf16 s bitsLt_bf16_f32 : FVec Ideal S1x1024 .bf16) broadcasts_S1x1024_S64x1024)

theorem topLo_apply (w : Vec Ideal S64x1024 .i8) (x : S64x1024.Idx) : topLo w x = (((16 * signNib (lowNib (w x)) : ℤ) : ℝ) : EReal) := by
  have e := Cert.Value.bitcast_bytes (fun v => v <<< 4 &&& 4042322160#32) (fun b => b <<< 4 &&& 240#8) (fun w b k q => Cert.Value.up_bytes w b k q)
    w bitcasts_S64x1024_w8_S16x1024_w32 bitcasts_S16x1024_w32_S64x1024_w8 x
  unfold topLo
  rw [ValueIdx.sitofp_apply]
  show ((((bitcast S64x1024 8 _ _ x : BitVec 8).toInt : ℤ) : ℝ) : EReal) = _
  rw [← Cert.Value.toInt_up, ← e]
  rfl

theorem topHi_apply (w : Vec Ideal S64x1024 .i8) (x : S64x1024.Idx) : topHi w x = (((16 * signNib (highNib (w x)) : ℤ) : ℝ) : EReal) := by
  have e := Cert.Value.bitcast_bytes (fun v => v &&& 4042322160#32) (fun b => b &&& 240#8) (fun w b k q => Cert.Value.top_bytes w b k q)
    w bitcasts_S64x1024_w8_S16x1024_w32 bitcasts_S16x1024_w32_S64x1024_w8 x
  unfold topHi
  rw [ValueIdx.sitofp_apply]
  show ((((bitcast S64x1024 8 _ _ x : BitVec 8).toInt : ℤ) : ℝ) : EReal) = _
  rw [← Cert.Value.toInt_top, ← e]
  rfl

theorem tileW_apply (v : FVec Ideal S64x1024 .bf16) (s : Vec Ideal S1x1024 .f32) (x : S64x1024.Idx) (n : ℤ)
    (h : v x = (((16 * signNib n : ℤ) : ℝ) : EReal)) :
    tileW v s x = deqW n (s (ix2 (0 : Fin 1) (show Fin 1024 from x 1))) := by
  have eb : broadcastTo S64x1024 (truncf .bf16 s bitsLt_bf16_f32 : FVec Ideal S1x1024 .bf16) broadcasts_S1x1024_S64x1024 x
      = s (ix2 (0 : Fin 1) (show Fin 1024 from x 1)) := by
    refine (broadcastTo_apply _ _ x (ix2 (0 : Fin 1) (show Fin 1024 from x 1)) fun a => ?_).trans rfl
    match a with
    | ⟨0, _⟩ => rfl
    | ⟨1, _⟩ => rfl
  show (v x * Ideal.ofBits .bf16 0x3D80#16) * broadcastTo S64x1024 _ _ x = _
  rw [eb, h, Ideal.ofBits_sixteenth_bf16]
  unfold deqW
  rw [← EReal.coe_mul]
  congr 2
  push_cast
  ring

/-- The kernel's four stored tiles are this function. -/
theorem pay5_tile (w : Vec Ideal S64x1024 .i8) (s : Vec Ideal S1x1024 .f32) : k1_pay5 w s = tileW (topLo w) s := by
  unfold k1_pay5; exact shapeCast_self _ _
theorem pay7_tile (w : Vec Ideal S64x1024 .i8) (s : Vec Ideal S1x1024 .f32) : k1_pay7 (k1_pay6 w s) = tileW (topHi w) s := by
  unfold k1_pay7; exact shapeCast_self _ _
theorem pay10_tile (w : Vec Ideal S64x1024 .i8) (s : Vec Ideal S1x1024 .f32) : k1_pay10 w s = tileW (topLo w) s := by
  unfold k1_pay10; exact shapeCast_self _ _
theorem pay11_tile (w : Vec Ideal S64x1024 .i8) (s : Vec Ideal S1x1024 .f32) : k1_pay1 (k1_pay11 w s) = tileW (topHi w) s := by
  unfold k1_pay1; exact shapeCast_self _ _

/-! ## A tile is the function's block -/

section Agree

variable (arg3 : Memref sig .tc .vmem S3072x1024 .i8) (harg3 : arg3.IsWhole) (arg4 : Memref sig .tc .vmem S48x1024 .f32) (harg4 : arg4.IsWhole)
  (x1 : Vec Ideal S3072x1024 .i8) (x2 : Vec Ideal S48x1024 .f32)

/-- The scratch that the kernel fills, as one function of the two blocks it reads. -/
def wBlk : S6144x1024.Idx → Elt Ideal .bf16 := fun y => wOf x1 x2 (show Fin 6144 from y 0) (show Fin 1024 from y 1)

theorem agree_w (u : Fin 2) (k : Fin k1_t1_loop.trips) (hb : ℕ) (hhb : hb < 2) {off offc offs : Fin 2 → ℕ}
    (hoff : off = ![256 * k.val + 64 * u.val + 128 * hb, 0]) (hoffc : offc = ![128 * k.val + 64 * u.val, 0]) (hoffs : offs = ![2 * k.val + u.val, 0])
    (inb : ∀ a, off a + S64x1024.size a ≤ S6144x1024.size a) (inbc : ∀ a, offc a + S64x1024.size a ≤ S3072x1024.size a)
    (inbs : ∀ a, offs a + S1x1024.size a ≤ S48x1024.size a) (v : Vec Ideal S64x1024 .i8 → FVec Ideal S64x1024 .bf16) (nib : BitVec 8 → ℤ)
    (hv : ∀ w x, v w x = (((16 * signNib (nib (w x)) : ℤ) : ℝ) : EReal)) (hnib : nib = if hb = 0 then lowNib else highNib)
    (p : FVec Ideal S64x1024 .bf16)
    (hp : p = tileW (v (View.readAt (Elt Ideal) arg3.view (Rect.unit (s := S3072x1024) offc S64x1024.size inbc).toLoadRect (harg3.unread x1)))
      (View.readAt (Elt Ideal) arg4.view (Rect.unit (s := S48x1024) offs S1x1024.size inbs).toLoadRect (harg4.unread x2)))
    (x : S64x1024.Idx) : p x = wBlk x1 x2 ((Rect.unit (s := S6144x1024) off S64x1024.size inb).emb x) := by
  subst hoff hoffc hoffs
  have hk : k.val < 24 := k.isLt
  have hu := u.isLt
  have h0 : (x 0).val < 64 := (x 0).isLt
  have h1 : (x 1).val < 1024 := (x 1).isLt
  rw [hp, tileW_apply _ _ x _ (hv _ x), harg3.readAt_unread, harg4.readAt_unread]
  unfold wBlk wOf
  have ek : (((Rect.unit (s := S6144x1024) ![256 * k.val + 64 * u.val + 128 * hb, 0] S64x1024.size inb).emb x) 0).val = 256 * k.val + 64 * u.val + 128 * hb + (x 0).val :=
    (show 256 * k.val + 64 * u.val + 128 * hb + 1 * (x 0).val = _ by omega)
  have en : (((Rect.unit (s := S6144x1024) ![256 * k.val + 64 * u.val + 128 * hb, 0] S64x1024.size inb).emb x) 1).val = (x 1).val :=
    (show 0 + 1 * (x 1).val = _ by omega)
  have ec : (codeCol (show Fin 6144 from ((Rect.unit (s := S6144x1024) ![256 * k.val + 64 * u.val + 128 * hb, 0] S64x1024.size inb).emb x) 0)).val = 128 * k.val + 64 * u.val + (x 0).val := by
    show 128 * (_ / 256) + _ % 128 = _
    rw [ek]; omega
  have ic : (Rect.unit (s := S3072x1024) ![128 * k.val + 64 * u.val, 0] S64x1024.size inbc).toLoadRect.idx x
      = ix2 (codeCol (show Fin 6144 from ((Rect.unit (s := S6144x1024) ![256 * k.val + 64 * u.val + 128 * hb, 0] S64x1024.size inb).emb x) 0))
          (show Fin 1024 from ((Rect.unit (s := S6144x1024) ![256 * k.val + 64 * u.val + 128 * hb, 0] S64x1024.size inb).emb x) 1) := by
    funext a
    match a with
    | ⟨0, _⟩ => exact Fin.ext ((show 128 * k.val + 64 * u.val + 1 * (x 0).val = 128 * k.val + 64 * u.val + (x 0).val by omega).trans ec.symm)
    | ⟨1, _⟩ => rfl
  have ig : (Rect.unit (s := S48x1024) ![2 * k.val + u.val, 0] S1x1024.size inbs).toLoadRect.idx (ix2 (0 : Fin 1) (show Fin 1024 from x 1))
      = ix2 (grpOf (codeCol (show Fin 6144 from ((Rect.unit (s := S6144x1024) ![256 * k.val + 64 * u.val + 128 * hb, 0] S64x1024.size inb).emb x) 0)))
          (show Fin 1024 from ((Rect.unit (s := S6144x1024) ![256 * k.val + 64 * u.val + 128 * hb, 0] S64x1024.size inb).emb x) 1) := by
    funext a
    match a with
    | ⟨0, _⟩ =>
      refine Fin.ext ((show 2 * k.val + u.val + 1 * 0 = 2 * k.val + u.val by omega).trans ?_)
      show _ = (codeCol _).val / 64
      rw [ec]; omega
    | ⟨1, _⟩ => rfl
  rw [ic, ig, hnib]
  have hdiv : (((Rect.unit (s := S6144x1024) ![256 * k.val + 64 * u.val + 128 * hb, 0] S64x1024.size inb).emb x) 0).val / 128 % 2 = hb := by
    rw [ek]; omega
  by_cases h : hb = 0
  · rw [if_pos h, if_pos (hdiv.trans h)]
  · rw [if_neg h, if_neg fun e => h (hdiv.symm.trans e)]

end Agree

/-- Every tile of a trip is a block of the function. -/
theorem wtrip_agrees (𝒱 : Variants) (bd : Option 𝒱.V) (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : k1_cond1 i = 1#1)
    (x1 : Vec Ideal S3072x1024 .i8) (x2 : Vec Ideal S48x1024 .f32) (k : Fin k1_t1_loop.trips) :
    ∀ p ∈ tripL_k1_t1 (F := Ideal) 𝒱 c bd i arg2 harg2 arg3 harg3 arg4 harg4 arg5 harg5 arg6 harg6 hc0 (harg3.unread x1) (harg4.unread x2) k,
      ∀ x : p.1.shape.Idx, p.2 x = wBlk x1 x2 (p.1.emb x) := by
  unfold tripL_k1_t1 trip_k1_t1
  dsimp only
  refine List.forall_mem_cons.2 ⟨agree_w arg3 harg3 arg4 harg4 x1 x2 1 k 1 (by decide) (k1_off4_eq k 1) (k1_off1_eq k 1) (k1_off2_eq k 1)
    (k1_off4_inb i k hc0 1) (k1_off1_inb i k hc0 1) (k1_off2_inb i k hc0 1) topHi highNib topHi_apply rfl _ (pay11_tile _ _), ?_⟩
  refine List.forall_mem_cons.2 ⟨agree_w arg3 harg3 arg4 harg4 x1 x2 1 k 0 (by decide) (k1_off3_eq k 1) (k1_off1_eq k 1) (k1_off2_eq k 1)
    (k1_off3_inb i k hc0 1) (k1_off1_inb i k hc0 1) (k1_off2_inb i k hc0 1) topLo lowNib topLo_apply rfl _ (pay10_tile _ _), ?_⟩
  refine List.forall_mem_cons.2 ⟨agree_w arg3 harg3 arg4 harg4 x1 x2 0 k 1 (by decide) (k1_off4_eq k 0) (k1_off1_eq k 0) (k1_off2_eq k 0)
    (k1_off4_inb i k hc0 0) (k1_off1_inb i k hc0 0) (k1_off2_inb i k hc0 0) topHi highNib topHi_apply rfl _ (pay7_tile _ _), ?_⟩
  refine List.forall_mem_cons.2 ⟨agree_w arg3 harg3 arg4 harg4 x1 x2 0 k 0 (by decide) (k1_off3_eq k 0) (k1_off1_eq k 0) (k1_off2_eq k 0)
    (k1_off3_inb i k hc0 0) (k1_off1_inb i k hc0 0) (k1_off2_inb i k hc0 0) topLo lowNib topLo_apply rfl _ (pay5_tile _ _), ?_⟩
  exact fun p hp => absurd hp List.not_mem_nil

/-- Every tile of the trips before `n` is a block of the function. -/
theorem wpieces_agree (𝒱 : Variants) (bd : Option 𝒱.V) (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : k1_cond1 i = 1#1)
    (x1 : Vec Ideal S3072x1024 .i8) (x2 : Vec Ideal S48x1024 .f32) (n : ℕ) (hn : n ≤ k1_t1_loop.trips) :
    ∀ p ∈ pb_k1_t1 (F := Ideal) 𝒱 c bd i arg2 harg2 arg3 harg3 arg4 harg4 arg5 harg5 arg6 harg6 hc0 (harg3.unread x1) (harg4.unread x2) n,
      ∀ x : p.1.shape.Idx, p.2 x = wBlk x1 x2 (p.1.emb x) := by
  induction n with
  | zero => exact fun p hp => absurd hp List.not_mem_nil
  | succ n ih =>
    intro p hp
    rw [pb_k1_t1_succ 𝒱 c bd i arg2 harg2 arg3 harg3 arg4 harg4 arg5 harg5 arg6 harg6 hc0 _ _ ⟨n, hn⟩] at hp
    rcases List.mem_append.1 hp with hp | hp
    · exact wtrip_agrees 𝒱 bd c i arg2 harg2 arg3 harg3 arg4 harg4 arg5 harg5 arg6 harg6 hc0 x1 x2 ⟨n, hn⟩ p hp
    · exact ih (Nat.le_of_succ_le hn) p hp

/-- The scratch pieces of a point that fills the scratch are those of the loop, each a block of the function. -/
theorem spieces_agree (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i) (x0 : Vec Ideal S1024x6144 .bf16) (x1 : Vec Ideal S3072x1024 .i8) (x2 : Vec Ideal S48x1024 .f32) :
    ∀ p ∈ (kernelRun1_A (F := Ideal) c i arg2 harg2 arg3 harg3 arg4 harg4 arg5 harg5 arg6 harg6 hc0 x0 x1 x2).2.1, ∀ x : p.1.shape.Idx, p.2 x = wBlk x1 x2 (p.1.emb x) := by
  unfold kernelRun1_A
  dsimp only
  exact wpieces_agree Variants.none none c i arg2 harg2 arg3 harg3 arg4 harg4 arg5 harg5 arg6 harg6 hc0 x1 x2 _ le_rfl

/-- What a point that fills the scratch leaves in it: the column block's dequantised weights. -/
theorem sout1_A_apply (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i) (x0 : Vec Ideal S1024x6144 .bf16) (x1 : Vec Ideal S3072x1024 .i8) (x2 : Vec Ideal S48x1024 .f32) (y : S6144x1024.Idx) :
    sout1_A_0 c i arg2 harg2 arg3 harg3 arg4 harg4 arg5 harg5 arg6 harg6 hc0 x0 x1 x2 y = wBlk x1 x2 y := by
  unfold sout1_A_0
  exact View.read_writes_apply_of_pieces VS1_0 _ (wBlk x1 x2) _ (spieces_agree c i arg2 harg2 arg3 harg3 arg4 harg4 arg5 harg5 arg6 harg6 hc0 x0 x1 x2) y
    (scover1_A_0 c i arg2 harg2 arg3 harg3 arg4 harg4 arg5 harg5 arg6 harg6 hc0 x0 x1 x2 y)

/-! ## The products -/

/-- A block of products: each row of activations against each column of weights. -/
def mmBlk (a : Vec Ideal S1024x6144 .bf16) (w : S6144x1024.Idx → Elt Ideal .bf16) : S1024x1024.Idx → Elt Ideal .bf16 :=
  fun y => ∑ k : Fin 6144, a (ix2 (show Fin 1024 from y 0) k) * w (ix2 k (show Fin 1024 from y 1))

theorem pay2_apply (a : Vec Ideal S1024x6144 .bf16) (w : Vec Ideal S6144x1024 .bf16) (y : S1024x1024.Idx) :
    k1_pay2 (F := Ideal) a w y = mmBlk a w y := by
  have e := Ideal.matmul_plain_apply (φ₁ := .bf16) (φ₂ := .bf16) none a w (constant S1024x1024 .f32 0x00000000#32 : FVec Ideal S1024x1024 .f32)
    (show Fin 1024 from y 0) (show Fin 1024 from y 1)
  have h : k1_pay2 (F := Ideal) a w y = FloatOps.matmul (F := Ideal) (φ₁ := .bf16) (φ₂ := .bf16) (DotDims.plain 1024 6144 1024) none a w
      (constant S1024x1024 .f32 0x00000000#32 : FVec Ideal S1024x1024 .f32) y := by
    unfold k1_pay2
    rw [shapeCast_self]
    rfl
  rw [h]
  refine (congrArg _ (ValueIdx.eq_ix2 y)).trans (e.trans ?_)
  show Ideal.ofBits .f32 0#32 + _ = _
  rw [Ideal.ofBits_zero_f32, zero_add]
  rfl

theorem readAt_full_unread {s : Shape} {e : EltTy} {m : Memref sig .tc .vmem s e} (h : m.IsWhole) (X : Vec Ideal s e)
    {off : Fin s.rank → ℕ} (inb : ∀ a, off a + s.size a ≤ s.size a) :
    View.readAt (Elt Ideal) m.view (Rect.unit (s := s) off s.size inb).toLoadRect (h.unread X) = X := by
  funext j
  rw [h.readAt_unread]
  exact congrArg X (Rect.emb_unit_full inb j)

/-- What a point that fills the scratch leaves in its output block, -/
theorem out1_A_apply (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : cond1_0 i) (x0 : Vec Ideal S1024x6144 .bf16) (x1 : Vec Ideal S3072x1024 .i8) (x2 : Vec Ideal S48x1024 .f32) (y : S1024x1024.Idx) :
    out1_A_3 c i arg2 harg2 arg3 harg3 arg4 harg4 arg5 harg5 arg6 harg6 hc0 x0 x1 x2 y = mmBlk x0 (wBlk x1 x2) y := by
  unfold out1_A_3
  refine View.read_writes_apply_of_pieces VO1_3 _ (mmBlk x0 (wBlk x1 x2)) _ ?_ y (cover1_A_3 c i arg2 harg2 arg3 harg3 arg4 harg4 arg5 harg5 arg6 harg6 hc0 x0 x1 x2 y)
  have hs := spieces_agree c i arg2 harg2 arg3 harg3 arg4 harg4 arg5 harg5 arg6 harg6 hc0 x0 x1 x2
  have hcov := scover1_A_0 c i arg2 harg2 arg3 harg3 arg4 harg4 arg5 harg5 arg6 harg6 hc0 x0 x1 x2
  unfold kernelRun1_A at hs hcov ⊢
  dsimp only at hs hcov ⊢
  refine List.forall_mem_cons.2 ⟨fun x => ?_, fun p hp => absurd hp List.not_mem_nil⟩
  rw [Rect.emb_unit_full]
  refine (congrFun (congrArg₂ (k1_pay2 (F := Ideal)) (readAt_full_unread harg2 x0 inb_S1024x6144_S1024x6144_0_0) (funext fun j => ?_)) x).trans (pay2_apply x0 (wBlk x1 x2) x)
  refine (View.read_writes_apply_of_pieces arg6.view _ (wBlk x1 x2) _ hs _ (hcov _)).trans ?_
  exact congrArg (wBlk x1 x2) (Rect.emb_unit_full (s := S6144x1024) inb_S6144x1024_S6144x1024_0_0 j)

/-- and a point that finds it filled. -/
theorem out1_B_apply (c : Dev nD) (i : grid1.Coords) (arg2 : Memref sig .tc .vmem S1024x6144 .bf16) (harg2 : arg2.IsWhole) (arg3 : Memref sig .tc .vmem S3072x1024 .i8) (harg3 : arg3.IsWhole) (arg4 : Memref sig .tc .vmem S48x1024 .f32) (harg4 : arg4.IsWhole) (arg5 : Memref sig .tc .vmem S1024x1024 .bf16) (harg5 : arg5.IsWhole) (arg6 : Memref sig .tc .vmem S6144x1024 .bf16) (harg6 : arg6.IsWhole) (hc0 : ¬cond1_0 i) (x0 : Vec Ideal S1024x6144 .bf16) (x1 : Vec Ideal S3072x1024 .i8) (x2 : Vec Ideal S48x1024 .f32) (xs0 : Vec Ideal S6144x1024 .bf16) (y : S1024x1024.Idx) :
    out1_B_3 c i arg2 harg2 arg3 harg3 arg4 harg4 arg5 harg5 arg6 harg6 hc0 x0 x1 x2 xs0 y = mmBlk x0 xs0 y := by
  unfold out1_B_3
  refine View.read_writes_apply_of_pieces VO1_3 _ (mmBlk x0 xs0) _ ?_ y (cover1_B_3 c i arg2 harg2 arg3 harg3 arg4 harg4 arg5 harg5 arg6 harg6 hc0 x0 x1 x2 xs0 y)
  unfold kernelRun1_B
  dsimp only
  refine List.forall_mem_cons.2 ⟨fun x => ?_, fun p hp => absurd hp List.not_mem_nil⟩
  rw [Rect.emb_unit_full]
  exact (congrFun (congrArg₂ (k1_pay2 (F := Ideal)) (readAt_full_unread harg2 x0 inb_S1024x6144_S1024x6144_0_0)
    (readAt_full_unread harg6 xs0 inb_S6144x1024_S6144x1024_0_0)) x).trans (pay2_apply x0 xs0 x)

end Cert.KernelIdeal.Gen

end
-- ==== Proof.Value.Arrays.lean ====
/- The two regions' result arrays, as functions of the arrays the regions find. -/
module

public import proofs.«01_k».proof.Proof.FrameI.Run
public import proofs.«01_k».proof.Proof.Value.Weights
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.Pipeline (Dat)
open Cert.Value (lowNib highNib)

variable (V : (c : Dev nD) → (b : Ref sig .tc) → Buf (Elt Ideal) ((c : Thread nD τ).loc b))

/-! ## The windows' block numbers -/

theorem idx0_0 : ∀ t : Fin cfg0.N, win0_0.index t = ![t.val, 0] := (by decide +kernel : ∀ t : Fin grid0.N, win0_0.index t = ![t.val, 0])
theorem idx0_1 : ∀ t : Fin cfg0.N, win0_1.index t = ![t.val, 0] := (by decide +kernel : ∀ t : Fin grid0.N, win0_1.index t = ![t.val, 0])
theorem idx0_2 : ∀ t : Fin cfg0.N, win0_2.index t = ![t.val, 0] := (by decide +kernel : ∀ t : Fin grid0.N, win0_2.index t = ![t.val, 0])
theorem idx0_3 : ∀ t : Fin cfg0.N, win0_3.index t = ![t.val, 0] := (by decide +kernel : ∀ t : Fin grid0.N, win0_3.index t = ![t.val, 0])
theorem idx1_0 : ∀ t : Fin cfg1.N, win1_0.index t = ![t.val % 9, 0] := (by decide +kernel : ∀ t : Fin grid1.N, win1_0.index t = ![t.val % 9, 0])
theorem idx1_1 : ∀ t : Fin cfg1.N, win1_1.index t = ![0, t.val / 9] := (by decide +kernel : ∀ t : Fin grid1.N, win1_1.index t = ![0, t.val / 9])
theorem idx1_2 : ∀ t : Fin cfg1.N, win1_2.index t = ![0, t.val / 9] := (by decide +kernel : ∀ t : Fin grid1.N, win1_2.index t = ![0, t.val / 9])
theorem idx1_3 : ∀ t : Fin cfg1.N, win1_3.index t = ![t.val % 9, t.val / 9] := (by decide +kernel : ∀ t : Fin grid1.N, win1_3.index t = ![t.val % 9, t.val / 9])

/-! ## A block's element is the array's, at the block's place -/

theorem blk0_0 (c : Dev nD) (t : Fin cfg0.N) (r : Fin 256) (k : Fin 3072) (R : Fin 9216) (K : Fin 3072) (hR : R.val = t.val * 256 + r.val) (hK : K.val = 0 * 3072 + k.val) :
    (iblk0 V c 0 t : Vec Ideal S256x3072 .i8) (ValueIdx.ix2 r k) = (V c main_v0 : Vec Ideal S9216x3072 .i8) (ValueIdx.ix2 R K) := by
  blk_simp [iblk0]
  refine congrArg (V c main_v0 : Vec Ideal S9216x3072 .i8) ?_
  funext a
  match a with
  | ⟨0, _⟩ => refine Fin.ext ?_; blk_simp [idx0_0]; exact hR.symm
  | ⟨1, _⟩ => refine Fin.ext ?_; blk_simp [idx0_0]; show k.val = K.val; omega
theorem blk0_1 (c : Dev nD) (t : Fin cfg0.N) (r : Fin 256) (k : Fin 48) (R : Fin 9216) (K : Fin 48) (hR : R.val = t.val * 256 + r.val) (hK : K.val = 0 * 48 + k.val) :
    (iblk0 V c 1 t : Vec Ideal S256x48 .f32) (ValueIdx.ix2 r k) = (V c main_v1 : Vec Ideal S9216x48 .f32) (ValueIdx.ix2 R K) := by
  blk_simp [iblk0]
  refine congrArg (V c main_v1 : Vec Ideal S9216x48 .f32) ?_
  funext a
  match a with
  | ⟨0, _⟩ => refine Fin.ext ?_; blk_simp [idx0_1]; exact hR.symm
  | ⟨1, _⟩ => refine Fin.ext ?_; blk_simp [idx0_1]; show k.val = K.val; omega
theorem blk0_2 (c : Dev nD) (t : Fin cfg0.N) (r : Fin 256) (k : Fin 48) (R : Fin 9216) (K : Fin 48) (hR : R.val = t.val * 256 + r.val) (hK : K.val = 0 * 48 + k.val) :
    (iblk0 V c 2 t : Vec Ideal S256x48 .i8) (ValueIdx.ix2 r k) = (V c main_v2 : Vec Ideal S9216x48 .i8) (ValueIdx.ix2 R K) := by
  blk_simp [iblk0]
  refine congrArg (V c main_v2 : Vec Ideal S9216x48 .i8) ?_
  funext a
  match a with
  | ⟨0, _⟩ => refine Fin.ext ?_; blk_simp [idx0_2]; exact hR.symm
  | ⟨1, _⟩ => refine Fin.ext ?_; blk_simp [idx0_2]; show k.val = K.val; omega
theorem blk1_0 (c : Dev nD) (t : Fin cfg1.N) (r : Fin 1024) (k : Fin 6144) (R : Fin 9216) (K : Fin 6144) (hR : R.val = t.val % 9 * 1024 + r.val) (hK : K.val = 0 * 6144 + k.val) :
    (iblk1 V c 0 t : Vec Ideal S1024x6144 .bf16) (ValueIdx.ix2 r k) = (V c main_v3 : Vec Ideal S9216x6144 .bf16) (ValueIdx.ix2 R K) := by
  blk_simp [iblk1]
  refine congrArg (V c main_v3 : Vec Ideal S9216x6144 .bf16) ?_
  funext a
  match a with
  | ⟨0, _⟩ => refine Fin.ext ?_; blk_simp [idx1_0]; exact hR.symm
  | ⟨1, _⟩ => refine Fin.ext ?_; blk_simp [idx1_0]; show k.val = K.val; omega
theorem blk1_1 (c : Dev nD) (t : Fin cfg1.N) (r : Fin 3072) (k : Fin 1024) (R : Fin 3072) (K : Fin 16384) (hR : R.val = 0 * 3072 + r.val) (hK : K.val = t.val / 9 * 1024 + k.val) :
    (iblk1 V c 1 t : Vec Ideal S3072x1024 .i8) (ValueIdx.ix2 r k) = (V c main_arg3 : Vec Ideal S3072x16384 .i8) (ValueIdx.ix2 R K) := by
  blk_simp [iblk1]
  refine congrArg (V c main_arg3 : Vec Ideal S3072x16384 .i8) ?_
  funext a
  match a with
  | ⟨0, _⟩ => refine Fin.ext ?_; blk_simp [idx1_1]; show r.val = R.val; omega
  | ⟨1, _⟩ => refine Fin.ext ?_; blk_simp [idx1_1]; exact hK.symm
theorem blk1_2 (c : Dev nD) (t : Fin cfg1.N) (r : Fin 48) (k : Fin 1024) (R : Fin 48) (K : Fin 16384) (hR : R.val = 0 * 48 + r.val) (hK : K.val = t.val / 9 * 1024 + k.val) :
    (iblk1 V c 2 t : Vec Ideal S48x1024 .f32) (ValueIdx.ix2 r k) = (V c main_arg4 : Vec Ideal S48x16384 .f32) (ValueIdx.ix2 R K) := by
  blk_simp [iblk1]
  refine congrArg (V c main_arg4 : Vec Ideal S48x16384 .f32) ?_
  funext a
  match a with
  | ⟨0, _⟩ => refine Fin.ext ?_; blk_simp [idx1_2]; show r.val = R.val; omega
  | ⟨1, _⟩ => refine Fin.ext ?_; blk_simp [idx1_2]; exact hK.symm

/-! ## The activations -/

/-- The whole array of dequantised activations. -/
def actArr (codes : Vec Ideal S9216x3072 .i8) (s : Vec Ideal S9216x48 .f32) (z : Vec Ideal S9216x48 .i8) : Vec Ideal S9216x6144 .bf16 :=
  fun y => actOf codes s z (show Fin 9216 from y 0) (show Fin 6144 from y 1)

/-- One row of activations depends on that row of the three arrays alone. -/
theorem actOf_row {R R' : ℕ} {codes : (⟨2, ![R, 3072]⟩ : Shape).Idx → BitVec 8} {s : (⟨2, ![R, 48]⟩ : Shape).Idx → EReal}
    {z : (⟨2, ![R, 48]⟩ : Shape).Idx → BitVec 8} {codes' : (⟨2, ![R', 3072]⟩ : Shape).Idx → BitVec 8} {s' : (⟨2, ![R', 48]⟩ : Shape).Idx → EReal}
    {z' : (⟨2, ![R', 48]⟩ : Shape).Idx → BitVec 8} (r : Fin R) (r' : Fin R')
    (h0 : ∀ k, codes (ValueIdx.ix2 r k) = codes' (ValueIdx.ix2 r' k)) (h1 : ∀ k, s (ValueIdx.ix2 r k) = s' (ValueIdx.ix2 r' k))
    (h2 : ∀ k, z (ValueIdx.ix2 r k) = z' (ValueIdx.ix2 r' k)) (k : Fin 6144) : actOf codes s z r k = actOf codes' s' z' r' k := by
  unfold actOf
  rw [h0, h1, h2]

/-- The first region leaves the dequantised activations. -/
theorem final0 (c : Dev nD) :
    (dat0 V c).arrAt 3 cfg0.N = actArr (V c main_v0) (V c main_v1) (V c main_v2) := by
  refine (dat0 V c).arrAt_eq_of_covers 3 _ (by decide +kernel) fun t hf y => ?_
  blk_simp
  rw [after0_3]
  unfold outsAt0
  refine (out0_apply c _ _ _ _ _ _ _ _ _ _ _ _ y).trans ?_
  have hr : (show Fin 9216 from (win0_3.blk t).view.emb y 0).val = t.val * 256 + (show Fin 256 from y 0).val := by
    show (((win0_3.blk t).view.emb y 0 : Fin _) : ℕ) = _
    blk_simp [idx0_3]
  have hk : (show Fin 6144 from (win0_3.blk t).view.emb y 1) = (show Fin 6144 from y 1) := by
    refine Fin.ext ?_
    show (((win0_3.blk t).view.emb y 1 : Fin _) : ℕ) = _
    blk_simp [idx0_3]
  unfold actBlk actArr
  rw [hk]
  exact actOf_row _ _ (fun k => blk0_0 V c t _ k _ k hr (by omega)) (fun k => blk0_1 V c t _ k _ k hr (by omega))
    (fun k => blk0_2 V c t _ k _ k hr (by omega)) _

/-! ## The weights that the scratch holds -/

/-- A column of weights depends on that column of the two arrays alone. -/
theorem wOf_col {N N' : ℕ} {wp : (⟨2, ![3072, N]⟩ : Shape).Idx → BitVec 8} {ws : (⟨2, ![48, N]⟩ : Shape).Idx → EReal}
    {wp' : (⟨2, ![3072, N']⟩ : Shape).Idx → BitVec 8} {ws' : (⟨2, ![48, N']⟩ : Shape).Idx → EReal} (n : Fin N) (n' : Fin N')
    (h0 : ∀ p, wp (ValueIdx.ix2 p n) = wp' (ValueIdx.ix2 p n')) (h1 : ∀ g, ws (ValueIdx.ix2 g n) = ws' (ValueIdx.ix2 g n')) (k : Fin 6144) :
    wOf wp ws k n = wOf wp' ws' k n' := by
  unfold wOf
  rw [h0, h1]

/-- The array's column at place `n` of column block `j`. -/
def colOf (j : ℕ) (hj : j < 16) (n : Fin 1024) : Fin 16384 := ⟨j * 1024 + n.val, by omega⟩

/-- The scratch after point `n`: the weights of the point's column block, whether the point filled it or found it. -/
theorem scratch_apply (c : Dev nD) (n : ℕ) (hn : n < cfg1.N) (hj : n / 9 < 16) (y : S6144x1024.Idx) :
    (outsAt1 V c n hn).2 y
      = wOf (V c main_arg3 : Vec Ideal S3072x16384 .i8) (V c main_arg4 : Vec Ideal S48x16384 .f32) (show Fin 6144 from y 0) (colOf (n / 9) hj (show Fin 1024 from y 1)) := by
  induction n with
  | zero =>
    rw [outsAt0_A V c ⟨0, hn⟩ (Nat.zero_mod 9)]
    refine (sout1_A_apply c _ _ _ _ _ _ _ _ _ _ _ _ _ _ _ y).trans ?_
    exact wOf_col _ _ (fun p => blk1_1 V c ⟨0, hn⟩ p _ p _ (by omega) rfl) (fun g => blk1_2 V c ⟨0, hn⟩ g _ g _ (by omega) rfl) _
  | succ n ih =>
    by_cases h : (n + 1) % 9 = 0
    · rw [outsAt0_A V c ⟨n + 1, hn⟩ h]
      refine (sout1_A_apply c _ _ _ _ _ _ _ _ _ _ _ _ _ _ _ y).trans ?_
      exact wOf_col _ _ (fun p => blk1_1 V c ⟨n + 1, hn⟩ p _ p _ (by omega) rfl) (fun g => blk1_2 V c ⟨n + 1, hn⟩ g _ g _ (by omega) rfl) _
    · rw [outsAt0_B V c ⟨n + 1, hn⟩ h]
      have e : (n + 1) / 9 = n / 9 := by omega
      refine (ih (Nat.lt_of_succ_lt hn) (e ▸ hj)).trans ?_
      congr 1
      unfold colOf
      simp only [e]

/-! ## The products -/

/-- A row of activations times a column of weights. -/
def dotRow {R : ℕ} (a : (⟨2, ![R, 6144]⟩ : Shape).Idx → EReal) (r : Fin R) (w : Fin 6144 → EReal) : EReal := ∑ k, a (ValueIdx.ix2 r k) * w k

theorem mmBlk_eq_dotRow (a : Vec Ideal S1024x6144 .bf16) (w : Vec Ideal S6144x1024 .bf16) (y : S1024x1024.Idx) (w' : Fin 6144 → EReal)
    (h : ∀ k, w (ValueIdx.ix2 k (show Fin 1024 from y 1)) = w' k) :
    mmBlk a w y = dotRow (R := 1024) a (show Fin 1024 from y 0) w' :=
  Finset.sum_congr rfl fun k _ => congrArg (a (ValueIdx.ix2 (show Fin 1024 from y 0) k) * ·) (h k)

theorem dotRow_row {R R' : ℕ} {a : (⟨2, ![R, 6144]⟩ : Shape).Idx → EReal} {a' : (⟨2, ![R', 6144]⟩ : Shape).Idx → EReal} {r : Fin R} {r' : Fin R'} {w : Fin 6144 → EReal}
    (h : ∀ k, a (ValueIdx.ix2 r k) = a' (ValueIdx.ix2 r' k)) : dotRow a r w = dotRow a' r' w :=
  Finset.sum_congr rfl fun k _ => congrArg (· * w k) (h k)

/-- The whole array of products. -/
def mmArr (a : Vec Ideal S9216x6144 .bf16) (wp : Vec Ideal S3072x16384 .i8) (ws : Vec Ideal S48x16384 .f32) : Vec Ideal S9216x16384 .bf16 :=
  fun y => dotRow (R := 9216) a (show Fin 9216 from y 0) fun k => wOf wp ws k (show Fin 16384 from y 1)

/-- The output block after point `t`, over the point's block of activations and the array of weights. -/
theorem out_apply (c : Dev nD) (t : Fin cfg1.N) (hj : t.val / 9 < 16) (y : S1024x1024.Idx) :
    (outsAt1 V c t.val t.isLt).1 y
      = dotRow (R := 1024) (iblk1 V c 0 t) (show Fin 1024 from y 0)
          fun k => wOf (V c main_arg3 : Vec Ideal S3072x16384 .i8) (V c main_arg4 : Vec Ideal S48x16384 .f32) k (colOf (t.val / 9) hj (show Fin 1024 from y 1)) := by
  have hs := scratch_apply V c t.val t.isLt hj
  by_cases h : t.val % 9 = 0
  · have hA := outsAt0_A V c t h
    refine (congrFun (congrArg Prod.fst hA) y).trans ?_
    refine Eq.trans (b := mmBlk (iblk1 V c 0 t) (wBlk (iblk1 V c 1 t) (iblk1 V c 2 t)) y) ?_ ?_
    · dsimp only
      exact out1_A_apply c _ _ _ _ _ _ _ _ _ _ _ _ _ _ _ y
    · refine mmBlk_eq_dotRow _ _ y _ fun k => ?_
      refine Eq.trans ?_ (hs (ValueIdx.ix2 k (show Fin 1024 from y 1)))
      refine Eq.trans ?_ (congrFun (congrArg Prod.snd hA) _).symm
      dsimp only
      exact (sout1_A_apply c _ _ _ _ _ _ _ _ _ _ _ _ _ _ _ _).symm
  · have hB := outsAt0_B V c t h
    refine (congrFun (congrArg Prod.fst hB) y).trans ?_
    refine Eq.trans (b := mmBlk (iblk1 V c 0 t) (outsAt1 V c (t.val - 1) (by omega)).2 y) ?_ ?_
    · dsimp only
      exact out1_B_apply c _ _ _ _ _ _ _ _ _ _ _ _ _ _ _ _ y
    · refine mmBlk_eq_dotRow _ _ y _ fun k => ?_
      refine Eq.trans ?_ (hs (ValueIdx.ix2 k (show Fin 1024 from y 1)))
      refine Eq.trans ?_ (congrFun (congrArg Prod.snd hB) (ValueIdx.ix2 k (show Fin 1024 from y 1))).symm
      dsimp only
      unfold sout1_B_0
      rfl

/-- The second region leaves the products. -/
theorem final1 (c : Dev nD) :
    (dat1 V c).arrAt 3 cfg1.N = mmArr (V c main_v3) (V c main_arg3) (V c main_arg4) := by
  refine (dat1 V c).arrAt_eq_of_covers 3 _ (by decide +kernel) fun t hf y => ?_
  have hN : t.val < 144 := lt_of_lt_of_eq t.isLt (show cfg1.N = 144 from N_1)
  have hj : t.val / 9 < 16 := by omega
  blk_simp
  rw [after1_3]
  refine (out_apply V c t hj y).trans ?_
  have hr : (show Fin 9216 from (win1_3.blk t).view.emb y 0).val = t.val % 9 * 1024 + (show Fin 1024 from y 0).val := by
    show (((win1_3.blk t).view.emb y 0 : Fin _) : ℕ) = _
    blk_simp [idx1_3]
  have hk : (show Fin 16384 from (win1_3.blk t).view.emb y 1) = colOf (t.val / 9) hj (show Fin 1024 from y 1) := by
    refine Fin.ext ?_
    show (((win1_3.blk t).view.emb y 1 : Fin _) : ℕ) = _
    blk_simp [idx1_3]; rfl
  unfold mmArr
  rw [hk]
  exact dotRow_row fun k => blk1_0 V c t _ k _ k hr (by omega)

end Cert.KernelIdeal.Gen

end
-- ==== Proof.Value.Reference.lean ====
/- The reference's result, as two sums over the packed bytes of dequantised low and high nibbles. -/
module

public import proofs.«01_k».proof.Proof.Gen.ReferenceIdeal.Read
public import proofs.«01_k».proof.Proof.Value.Weights

@[expose] public section

set_option maxRecDepth 16384

noncomputable section

namespace Cert.ReferenceIdeal.Read

open Idealize.ShloMosaic
open Idealize.ShloMosaic.ValueIdx (ix2 ix3)
open Cert.ReferenceIdeal.Gen
open Cert.Value (lowNib highNib signNib)
open Cert.KernelIdeal.Gen (deq deqW grpOf toInt_byte)

/-! ## The integers in the reference's 32-bit words -/

/-- The difference of two words that hold small integers holds the difference. -/
theorem toInt_subi (a b : BitVec 32) (ha0 : 0 ≤ a.toInt) (ha : a.toInt < 256) (hb0 : 0 ≤ b.toInt) (hb : b.toInt < 256) :
    (IntOp.subi a b).toInt = a.toInt - b.toInt := by
  unfold IntOp.subi
  rw [BitVec.toInt_sub]
  exact Int.bmod_eq_of_le (by norm_num; omega) (by norm_num; omega)

theorem toInt_lowWord : ∀ c : BitVec 8, (IntOp.andi (c.setWidth 32) 15#32).toInt = lowNib c := by unfold lowNib; decide +kernel
theorem toInt_highWord : ∀ c : BitVec 8, (IntOp.shrsi .host (c.setWidth 32) 4#32).toInt = highNib c := by unfold highNib; decide +kernel

/-- A nibble is below sixteen, -/
theorem lowNib_bound (c : BitVec 8) : 0 ≤ lowNib c ∧ lowNib c < 16 := by unfold lowNib; omega
theorem highNib_bound (c : BitVec 8) : 0 ≤ highNib c ∧ highNib c < 16 := by have := c.isLt; unfold highNib; omega

theorem toInt_lowDiff (c z : BitVec 8) : (IntOp.subi (IntOp.andi (c.setWidth 32) 15#32) (z.setWidth 32)).toInt = lowNib c - (z.toNat : ℤ) := by
  have h := lowNib_bound c
  have hz := z.isLt
  rw [toInt_subi _ _ (by rw [toInt_lowWord]; omega) (by rw [toInt_lowWord]; omega) (by rw [toInt_byte]; omega) (by rw [toInt_byte]; omega), toInt_lowWord, toInt_byte]
theorem toInt_highDiff (c z : BitVec 8) : (IntOp.subi (IntOp.shrsi .host (c.setWidth 32) 4#32) (z.setWidth 32)).toInt = highNib c - (z.toNat : ℤ) := by
  have h := highNib_bound c
  have hz := z.isLt
  rw [toInt_subi _ _ (by rw [toInt_highWord]; omega) (by rw [toInt_highWord]; omega) (by rw [toInt_byte]; omega) (by rw [toInt_byte]; omega), toInt_highWord, toInt_byte]

/-- The word that the reference chooses: the nibble, or sixteen less when it is eight or more. -/
def whereWord (v : BitVec 32) : BitVec 32 := Scalar.select (IntOp.cmpi .sge v 8#32) (IntOp.subi v 16#32) v
theorem toInt_lowWhere : ∀ c : BitVec 8, (whereWord (IntOp.andi (c.setWidth 32) 15#32)).toInt = signNib (lowNib c) := by
  unfold whereWord lowNib signNib; decide +kernel
theorem toInt_highWhere : ∀ c : BitVec 8, (whereWord (IntOp.shrsi .host (c.setWidth 32) 4#32)).toInt = signNib (highNib c) := by
  unfold whereWord highNib signNib; decide +kernel

/-! ## The dequantised operands -/

section Act
variable (x0 : (⟨S12x768x3072, .i8⟩ : BufTy).Contents (Elt Ideal)) (x1 : (⟨S12x768x48, .f32⟩ : BufTy).Contents (Elt Ideal))
  (x2 : (⟨S12x768x48, .i8⟩ : BufTy).Contents (Elt Ideal)) (b : Fin 12) (s : Fin 768) (p : Fin 3072)

/-- The reshape of the codes to groups and back is the identity, -/
theorem idx_codes : idx_main_v3 (idx_main_v13 (ix3 b s p)) = ix3 b s p := by
  have hb : b.val < 12 := b.isLt
  have hs : s.val < 768 := s.isLt
  have hp : p.val < 3072 := p.isLt
  funext a
  match a with
  | ⟨0, _⟩ => refine Fin.ext ?_; simp only [idx_main_v3, idx_main_v13, ix3]; omega
  | ⟨1, _⟩ => refine Fin.ext ?_; simp only [idx_main_v3, idx_main_v13, ix3]; omega
  | ⟨2, _⟩ => refine Fin.ext ?_; simp only [idx_main_v3, idx_main_v13, ix3]; omega

/-- and the zero points and scales are those of the byte's group. -/
theorem idx_group : idx_main_v5 (idx_main_v6 (idx_main_v13 (ix3 b s p))) = ix3 b s (grpOf p) := by
  have hb : b.val < 12 := b.isLt
  have hs : s.val < 768 := s.isLt
  have hp : p.val < 3072 := p.isLt
  funext a
  match a with
  | ⟨0, _⟩ => refine Fin.ext ?_; simp only [idx_main_v5, idx_main_v6, idx_main_v13, ix3]; omega
  | ⟨1, _⟩ => refine Fin.ext ?_; simp only [idx_main_v5, idx_main_v6, idx_main_v13, ix3]; omega
  | ⟨2, _⟩ => refine Fin.ext ?_; simp only [idx_main_v5, idx_main_v6, idx_main_v13, ix3, grpOf]; omega

theorem act_low : val_main_v13 (F := Ideal) x0 x1 x2 (ix3 b s p)
    = deq (lowNib (x0 (ix3 b s p))) (x2 (ix3 b s (grpOf p))) (x1 (ix3 b s (grpOf p))) := by
  rw [val_main_v13_apply, val_main_v12_apply, val_main_v8_apply, val_main_v7_apply, val_main_v3_apply, val_main_v2_apply, val_main_v1_apply,
    val_main_c_apply, val_main_v0_apply, val_main_v6_apply, val_main_v5_apply, val_main_v4_apply, val_main_v11_apply, val_main_v10_apply, val_main_v9_apply]
  rw [idx_codes, idx_group, show idx_main_v10 (idx_main_v11 (idx_main_v13 (ix3 b s p))) = ix3 b s (grpOf p) from idx_group b s p]
  unfold deq
  rw [← toInt_lowDiff]
  rfl

theorem act_high : val_main_v26 (F := Ideal) x0 x1 x2 (ix3 b s p)
    = deq (highNib (x0 (ix3 b s p))) (x2 (ix3 b s (grpOf p))) (x1 (ix3 b s (grpOf p))) := by
  rw [val_main_v26_apply, val_main_v25_apply, val_main_v21_apply, val_main_v20_apply, val_main_v16_apply, val_main_v15_apply, val_main_v14_apply,
    val_main_c_0_apply, val_main_v0_apply, val_main_v19_apply, val_main_v18_apply, val_main_v17_apply, val_main_v24_apply, val_main_v23_apply, val_main_v22_apply]
  rw [show idx_main_v16 (idx_main_v26 (ix3 b s p)) = ix3 b s p from idx_codes b s p,
    show idx_main_v18 (idx_main_v19 (idx_main_v26 (ix3 b s p))) = ix3 b s (grpOf p) from idx_group b s p,
    show idx_main_v23 (idx_main_v24 (idx_main_v26 (ix3 b s p))) = ix3 b s (grpOf p) from idx_group b s p]
  unfold deq
  rw [← toInt_highDiff]
  rfl
end Act

section Weight
variable (x3 : (⟨S3072x16384, .i8⟩ : BufTy).Contents (Elt Ideal)) (x4 : (⟨S48x16384, .f32⟩ : BufTy).Contents (Elt Ideal)) (p : Fin 3072) (n : Fin 16384)

theorem idx_weights : idx_main_v36 (idx_main_v41 (ix2 p n)) = ix2 p n := by
  have hp : p.val < 3072 := p.isLt
  have hn : n.val < 16384 := n.isLt
  funext a
  match a with
  | ⟨0, _⟩ => refine Fin.ext ?_; simp only [idx_main_v36, idx_main_v41, ix2]; omega
  | ⟨1, _⟩ => refine Fin.ext ?_; simp only [idx_main_v36, idx_main_v41, ix2]; omega
theorem idx_wscales : idx_main_v38 (idx_main_v39 (idx_main_v41 (ix2 p n))) = ix2 (grpOf p) n := by
  have hp : p.val < 3072 := p.isLt
  have hn : n.val < 16384 := n.isLt
  funext a
  match a with
  | ⟨0, _⟩ => refine Fin.ext ?_; simp only [idx_main_v38, idx_main_v39, idx_main_v41, ix2, grpOf]; omega
  | ⟨1, _⟩ => refine Fin.ext ?_; simp only [idx_main_v38, idx_main_v39, idx_main_v41, ix2]; omega

theorem weight_low : val_main_v41 (F := Ideal) x3 x4 (ix2 p n) = deqW (lowNib (x3 (ix2 p n))) (x4 (ix2 (grpOf p) n)) := by
  rw [val_main_v41_apply, val_main_v40_apply, val_main_v36_apply, val_main_v35_apply, val_main_v34_apply, val_main_v31_apply, val_main_v33_apply,
    val_main_v30_apply, val_main_v32_apply, val_main_c_2_apply, val_main_c_3_apply, val_main_v29_apply, val_main_v28_apply, val_main_c_1_apply,
    val_main_v27_apply, val_main_v39_apply, val_main_v38_apply, val_main_v37_apply]
  rw [idx_weights, idx_wscales]
  unfold deqW
  rw [← toInt_lowWhere]
  rfl

theorem weight_high : val_main_v55 (F := Ideal) x3 x4 (ix2 p n) = deqW (highNib (x3 (ix2 p n))) (x4 (ix2 (grpOf p) n)) := by
  rw [val_main_v55_apply, val_main_v54_apply, val_main_v50_apply, val_main_v49_apply, val_main_v48_apply, val_main_v45_apply, val_main_v47_apply,
    val_main_v44_apply, val_main_v46_apply, val_main_c_5_apply, val_main_c_6_apply, val_main_v43_apply, val_main_v42_apply, val_main_c_4_apply,
    val_main_v27_apply, val_main_v53_apply, val_main_v52_apply, val_main_v51_apply]
  rw [show idx_main_v50 (idx_main_v55 (ix2 p n)) = ix2 p n from idx_weights p n,
    show idx_main_v52 (idx_main_v53 (idx_main_v55 (ix2 p n))) = ix2 (grpOf p) n from idx_wscales p n]
  unfold deqW
  rw [← toInt_highWhere]
  rfl
end Weight

/-! ## The result -/

/-- The reference's result: the products of the low nibbles and of the high nibbles, summed. -/
theorem result_apply (x0 : (⟨S12x768x3072, .i8⟩ : BufTy).Contents (Elt Ideal)) (x1 : (⟨S12x768x48, .f32⟩ : BufTy).Contents (Elt Ideal))
    (x2 : (⟨S12x768x48, .i8⟩ : BufTy).Contents (Elt Ideal)) (x3 : (⟨S3072x16384, .i8⟩ : BufTy).Contents (Elt Ideal))
    (x4 : (⟨S48x16384, .f32⟩ : BufTy).Contents (Elt Ideal)) (b : Fin 12) (s : Fin 768) (n : Fin 16384) :
    val_main_v59 (F := Ideal) x0 x1 x2 x3 x4 (ix3 b s n)
      = (∑ p : Fin 3072, deq (lowNib (x0 (ix3 b s p))) (x2 (ix3 b s (grpOf p))) (x1 (ix3 b s (grpOf p)))
            * deqW (lowNib (x3 (ix2 p n))) (x4 (ix2 (grpOf p) n)))
        + ∑ p : Fin 3072, deq (highNib (x0 (ix3 b s p))) (x2 (ix3 b s (grpOf p))) (x1 (ix3 b s (grpOf p)))
            * deqW (highNib (x3 (ix2 p n))) (x4 (ix2 (grpOf p) n)) := by
  have el : ∀ p : Fin 3072, lidx_main_v56 (ix3 b s n) p = ix3 b s p := fun p => funext fun a => by
    match a with
    | ⟨0, _⟩ => rfl
    | ⟨1, _⟩ => rfl
    | ⟨2, _⟩ => rfl
  have er : ∀ p : Fin 3072, ridx_main_v56 (ix3 b s n) p = ix2 p n := fun p => funext fun a => by
    match a with
    | ⟨0, _⟩ => rfl
    | ⟨1, _⟩ => rfl
  rw [val_main_v59_apply, val_main_v58_apply, val_main_v56_apply, val_main_v57_apply]
  show (∑ p : Fin 3072, _ : EReal) + (∑ p : Fin 3072, _ : EReal) = _
  congr 1
  · refine Finset.sum_congr rfl fun p _ => ?_
    rw [el, er, act_low, weight_low]
  · refine Finset.sum_congr rfl fun p _ => ?_
    rw [show lidx_main_v57 (ix3 b s n) p = ix3 b s p from el p, show ridx_main_v57 (ix3 b s n) p = ix2 p n from er p, act_high, weight_high]

end Cert.ReferenceIdeal.Read

end
-- ==== Proof.Value.Equation.lean ====
/- The kernel's sum over all columns, taken apart into the reference's two sums. -/
module

public import proofs.«01_k».proof.Proof.Value.Arrays
public import proofs.«01_k».proof.Proof.Value.Reference

@[expose] public section

set_option maxRecDepth 16384

noncomputable section

namespace Cert.KernelIdeal.Gen

open Idealize.ShloMosaic
open Cert.Value (lowNib highNib)

/-- The kernel's order of the columns: runs of 128 low nibbles and of 128 high nibbles in turn. -/
def columns : Fin 6144 ≃ Fin 3072 ⊕ Fin 3072 where
  toFun k := if k.val / 128 % 2 = 0 then Sum.inl (codeCol k) else Sum.inr (codeCol k)
  invFun
    | Sum.inl p => ⟨256 * (p.val / 128) + p.val % 128, by omega⟩
    | Sum.inr p => ⟨256 * (p.val / 128) + 128 + p.val % 128, by omega⟩
  left_inv k := by
    by_cases h : k.val / 128 % 2 = 0
    · simp only [if_pos h]
      refine Fin.ext ?_
      simp only [codeCol]
      omega
    · simp only [if_neg h]
      refine Fin.ext ?_
      simp only [codeCol]
      omega
  right_inv q := by
    match q with
    | Sum.inl p =>
      have h : (256 * (p.val / 128) + p.val % 128) / 128 % 2 = 0 := by omega
      simp only [if_pos h]
      refine congrArg Sum.inl (Fin.ext ?_)
      simp only [codeCol]
      omega
    | Sum.inr p =>
      have h : ¬ (256 * (p.val / 128) + 128 + p.val % 128) / 128 % 2 = 0 := by omega
      simp only [if_neg h]
      refine congrArg Sum.inr (Fin.ext ?_)
      simp only [codeCol]
      omega

/-- A sum over the columns is the sum over the low nibbles and the sum over the high ones. -/
theorem sum_columns (L H : Fin 3072 → EReal) :
    ∑ k : Fin 6144, (if k.val / 128 % 2 = 0 then L (codeCol k) else H (codeCol k)) = ∑ p, L p + ∑ p, H p := by
  refine Eq.trans ?_ (Fintype.sum_sum_type (Sum.elim L H))
  rw [← Equiv.sum_comp columns]
  refine Finset.sum_congr rfl fun k _ => ?_
  show _ = Sum.elim L H (if k.val / 128 % 2 = 0 then Sum.inl (codeCol k) else Sum.inr (codeCol k))
  split <;> rfl

/-- A row of dequantised activations times a column of dequantised weights, nibble by nibble. -/
theorem dotRow_actArr (codes : Vec Ideal S9216x3072 .i8) (s : Vec Ideal S9216x48 .f32) (z : Vec Ideal S9216x48 .i8)
    (wp : Vec Ideal S3072x16384 .i8) (ws : Vec Ideal S48x16384 .f32) (r : Fin 9216) (n : Fin 16384) :
    dotRow (R := 9216) (actArr codes s z) r (fun k => wOf wp ws k n)
      = (∑ p : Fin 3072, deq (lowNib (codes (ValueIdx.ix2 r p))) (z (ValueIdx.ix2 r (grpOf p))) (s (ValueIdx.ix2 r (grpOf p)))
            * deqW (lowNib (wp (ValueIdx.ix2 p n))) (ws (ValueIdx.ix2 (grpOf p) n)))
        + ∑ p : Fin 3072, deq (highNib (codes (ValueIdx.ix2 r p))) (z (ValueIdx.ix2 r (grpOf p))) (s (ValueIdx.ix2 r (grpOf p)))
            * deqW (highNib (wp (ValueIdx.ix2 p n))) (ws (ValueIdx.ix2 (grpOf p) n)) := by
  rw [← sum_columns]
  unfold dotRow
  refine Finset.sum_congr rfl fun k _ => ?_
  show actOf codes s z r k * wOf wp ws k n = _
  unfold actOf wOf
  split <;> rfl

/-- What the kernel's program computes from the five arguments: the arrays reshaped to rows, the activations dequantised,
    the products, and the rows put back in batches. -/
def kernelValue (x0 : Vec Ideal S12x768x3072 .i8) (x1 : Vec Ideal S12x768x48 .f32) (x2 : Vec Ideal S12x768x48 .i8)
    (x3 : Vec Ideal S3072x16384 .i8) (x4 : Vec Ideal S48x16384 .f32) : Vec Ideal S12x768x16384 .bf16 :=
  shapeCast S12x768x16384
    (mmArr (actArr (shapeCast S9216x3072 x0 shapeCasts_S12x768x3072_S9216x3072) (shapeCast S9216x48 x1 shapeCasts_S12x768x48_S9216x48)
      (shapeCast S9216x48 x2 shapeCasts_S12x768x48_S9216x48)) x3 x4) shapeCasts_S9216x16384_S12x768x16384

/-- Row `s` of batch `b`. -/
def rowOf (b : Fin 12) (s : Fin 768) : Fin 9216 := ⟨b.val * 768 + s.val, by omega⟩

theorem rows3072 {α : Type} (x : S12x768x3072.Idx → α) (b : Fin 12) (s : Fin 768) (p : Fin 3072) :
    shapeCast S9216x3072 x shapeCasts_S12x768x3072_S9216x3072 (ValueIdx.ix2 (rowOf b s) p) = x (ValueIdx.ix3 b s p) :=
  shapeCast_apply x _ _ _ (by rw [Shape.rowMajor_val_three, Shape.rowMajor_val_two]; rfl)
theorem rows48 {α : Type} (x : S12x768x48.Idx → α) (b : Fin 12) (s : Fin 768) (g : Fin 48) :
    shapeCast S9216x48 x shapeCasts_S12x768x48_S9216x48 (ValueIdx.ix2 (rowOf b s) g) = x (ValueIdx.ix3 b s g) :=
  shapeCast_apply x _ _ _ (by rw [Shape.rowMajor_val_three, Shape.rowMajor_val_two]; rfl)
theorem rows16384 {α : Type} (x : S9216x16384.Idx → α) (b : Fin 12) (s : Fin 768) (n : Fin 16384) :
    shapeCast S12x768x16384 x shapeCasts_S9216x16384_S12x768x16384 (ValueIdx.ix3 b s n) = x (ValueIdx.ix2 (rowOf b s) n) :=
  shapeCast_apply x _ _ _ (by rw [Shape.rowMajor_val_three, Shape.rowMajor_val_two]; rfl)

/-- The kernel's value is the reference's. -/
theorem kernelValue_eq (x0 : Vec Ideal S12x768x3072 .i8) (x1 : Vec Ideal S12x768x48 .f32) (x2 : Vec Ideal S12x768x48 .i8)
    (x3 : Vec Ideal S3072x16384 .i8) (x4 : Vec Ideal S48x16384 .f32) :
    kernelValue x0 x1 x2 x3 x4 = Cert.ReferenceIdeal.Read.val_main_v59 (F := Ideal) x0 x1 x2 x3 x4 := by
  funext i
  obtain ⟨b, s, n, rfl⟩ : ∃ (b : Fin 12) (s : Fin 768) (n : Fin 16384), i = ValueIdx.ix3 b s n := ⟨i 0, i 1, i 2, ValueIdx.eq_ix3 i⟩
  refine Eq.trans ?_ (Cert.ReferenceIdeal.Read.result_apply x0 x1 x2 x3 x4 b s n).symm
  unfold kernelValue
  rw [rows16384]
  show dotRow (R := 9216) (actArr _ _ _) (rowOf b s) (fun k => wOf x3 x4 k n) = _
  rw [dotRow_actArr]
  simp only [rows3072, rows48]

end Cert.KernelIdeal.Gen

end
-- ==== Proof.Value.Result.lean ====
/- The kernel program's result array, read out of its run. -/
module

public import proofs.«01_k».proof.Proof.Value.Equation

@[expose] public section

set_option maxRecDepth 16384

noncomputable section

namespace Cert.KernelIdeal.Gen

open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The arrays the two regions find -/

theorem V1_main_v0 (c : Dev nD) : V1 m ρ c main_v0
    = shapeCast S9216x3072 (m ((c : Thread nD τ).loc main_arg0)) shapeCasts_S12x768x3072_S9216x3072 := by
  show StableHlo.after hostOps0 (W0 m ρ c) (Proc.devRef .tc main_v0) = _
  after_results
  all_goals rfl
theorem V1_main_v1 (c : Dev nD) : V1 m ρ c main_v1
    = shapeCast S9216x48 (m ((c : Thread nD τ).loc main_arg1)) shapeCasts_S12x768x48_S9216x48 := by
  show StableHlo.after hostOps0 (W0 m ρ c) (Proc.devRef .tc main_v1) = _
  after_results
  all_goals rfl
theorem V1_main_v2 (c : Dev nD) : V1 m ρ c main_v2
    = shapeCast S9216x48 (m ((c : Thread nD τ).loc main_arg2)) shapeCasts_S12x768x48_S9216x48 := by
  show StableHlo.after hostOps0 (W0 m ρ c) (Proc.devRef .tc main_v2) = _
  after_results
  all_goals rfl

theorem V2_main_v3 (c : Dev nD) : V2 m ρ c main_v3 = actArr (V1 m ρ c main_v0) (V1 m ρ c main_v1) (V1 m ρ c main_v2) :=
  (W2_arr m ρ c 3).trans (final0 (V1 m ρ) c)
theorem V2_main_arg3 (c : Dev nD) : V2 m ρ c main_arg3 = m ((c : Thread nD τ).loc main_arg3) := W2_args m ρ c main_arg3 (by decide)
theorem V2_main_arg4 (c : Dev nD) : V2 m ρ c main_arg4 = m ((c : Thread nD τ).loc main_arg4) := W2_args m ρ c main_arg4 (by decide)

/-! ## The result -/

theorem W3_main_v4 (c : Dev nD) : W3 m ρ c (Proc.devRef .tc main_v4)
    = mmArr (V2 m ρ c main_v3) (V2 m ρ c main_arg3) (V2 m ρ c main_arg4) :=
  (W3_arr m ρ c 3).trans (final1 (V2 m ρ) c)

theorem W4_main_v5 (c : Dev nD) : W4 m ρ c (Proc.devRef .tc main_v5)
    = kernelValue (m ((c : Thread nD τ).loc main_arg0)) (m ((c : Thread nD τ).loc main_arg1)) (m ((c : Thread nD τ).loc main_arg2))
        (m ((c : Thread nD τ).loc main_arg3)) (m ((c : Thread nD τ).loc main_arg4)) := by
  have h : W4 m ρ c (Proc.devRef .tc main_v5)
      = shapeCast S12x768x16384 (W3 m ρ c (Proc.devRef .tc main_v4)) shapeCasts_S9216x16384_S12x768x16384 := by
    show StableHlo.after hostOps2 (W3 m ρ c) (Proc.devRef .tc main_v5) = _
    after_results
    all_goals rfl
  rw [h, W3_main_v4, V2_main_v3, V2_main_arg3, V2_main_arg4, V1_main_v0, V1_main_v1, V1_main_v2]
  rfl

/-- The kernel program's run: the result is the reference's value of the arguments, and the arguments are unchanged. -/
theorem run_value : θ_run defs (onTc (τ := τ) (main (F := Ideal))) ⟨m, fun _ => 0, ρ⟩ (fun r => ∀ c : Dev nD,
    r.2.mem ((c.tc : Thread nD τ).loc main_v5)
      = Cert.ReferenceIdeal.Read.val_main_v59 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c =>
    ⟨(h.1 c _ (mem_uc main_v5 (by decide))).trans ((W4_main_v5 m ρ c).trans (kernelValue_eq _ _ _ _ _)),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c),
      (h.1 c _ (mem_uc main_arg4 (by decide))).trans (W4_main_arg4 m ρ c)⟩)
    (run_all m ρ)

end Cert.KernelIdeal.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.FrameK.Run
public import proofs.«01_k».proof.Proof.FrameI.Run
public import proofs.«01_k».proof.Proof.Value.Result

@[expose] public section

noncomputable section

namespace Cert.Proof

open Idealize.ShloMosaic Idealize.SL.Sem

/-- The reference is a line of host operations: it writes no argument and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two programs run at equal arguments end with equal results, the kernel's value being the reference's. -/
theorem algebraic : Cert.algebraic_KernelIdeal_ReferenceIdeal := fun m g m' g' _ hargs =>
  ⟨_, Cert.KernelIdeal.Gen.run_value m g,
    (θ_run Cert.ReferenceIdeal.defs _ _).mono
      (fun r h c => by
        obtain ⟨e0, e1, e2, e3, e4⟩ := hargs c
        refine ⟨((h c).1.trans (Cert.ReferenceIdeal.Read.val_main_v59_eq _ _ _ _ _)).trans ?_, (h c).2⟩
        rw [e0, e1, e2, e3, e4])
      (Cert.ReferenceIdeal.Value.run (F := Ideal) m' g')⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference,
  trivial,
  algebraic⟩

end Cert.Proof

end
